-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096 : Shape := ⟨2, ![4, 4096]⟩
abbrev S1000000x128 : Shape := ⟨2, ![1000000, 128]⟩
abbrev S1024x128 : Shape := ⟨2, ![1024, 128]⟩
abbrev S_ : Shape := ⟨0, ![]⟩
abbrev S16384 : Shape := ⟨1, ![16384]⟩
abbrev S1 : Shape := ⟨1, ![1]⟩
abbrev S2x4096x128 : Shape := ⟨3, ![2, 4096, 128]⟩
abbrev S136 : Shape := ⟨1, ![136]⟩
abbrev S128 : Shape := ⟨1, ![128]⟩
abbrev S128x128 : Shape := ⟨2, ![128, 128]⟩
abbrev S8 : Shape := ⟨1, ![8]⟩
abbrev S16 : Shape := ⟨1, ![16]⟩
abbrev S1x128x128 : Shape := ⟨3, ![1, 128, 128]⟩
abbrev S16384x1024 : Shape := ⟨2, ![16384, 1024]⟩
abbrev S2x512x128 : Shape := ⟨3, ![2, 512, 128]⟩
abbrev S512x1024 : Shape := ⟨2, ![512, 1024]⟩
abbrev S1x512x128 : Shape := ⟨3, ![1, 512, 128]⟩
abbrev S512x128 : Shape := ⟨2, ![512, 128]⟩
abbrev S4x4096x1024 : Shape := ⟨3, ![4, 4096, 1024]⟩

abbrev nBuf : Table → Nat
  | .hbm => 15
  | .local .tc .vmem => 20
  | .local .tc .smem => 4
  | .local .scVector .vmem => 20
  | _ => 0

abbrev bufTy : (tb : Table) → Fin (nBuf tb) → BufTy
  | .hbm, ⟨0, _⟩ => ⟨S4x4096, .i32⟩
  | .hbm, ⟨1, _⟩ => ⟨S1000000x128, .f32⟩
  | .hbm, ⟨2, _⟩ => ⟨S1024x128, .f32⟩
  | .hbm, ⟨3, _⟩ => ⟨S_, .f32⟩
  | .hbm, ⟨4, _⟩ => ⟨S16384, .i32⟩
  | .hbm, ⟨5, _⟩ => ⟨S1, .f32⟩
  | .hbm, ⟨6, _⟩ => ⟨S2x4096x128, .f32⟩
  | .hbm, ⟨7, _⟩ => ⟨S2x4096x128, .f32⟩
  | .hbm, ⟨8, _⟩ => ⟨S2x4096x128, .f32⟩
  | .hbm, ⟨9, _⟩ => ⟨S2x4096x128, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S4x4096x1024, .f32⟩
  | .local .tc .vmem, ⟨0, _⟩ => ⟨S2x512x128, .f32⟩
  | .local .tc .vmem, ⟨1, _⟩ => ⟨S2x512x128, .f32⟩
  | .local .tc .vmem, ⟨2, _⟩ => ⟨S1024x128, .f32⟩
  | .local .tc .vmem, ⟨3, _⟩ => ⟨S512x1024, .f32⟩
  | .local .tc .vmem, ⟨4, _⟩ => ⟨S512x1024, .f32⟩
  | .local .tc .vmem, ⟨5, _⟩ => ⟨S2x512x128, .f32⟩
  | .local .tc .vmem, ⟨6, _⟩ => ⟨S2x512x128, .f32⟩
  | .local .tc .vmem, ⟨7, _⟩ => ⟨S1024x128, .f32⟩
  | .local .tc .vmem, ⟨8, _⟩ => ⟨S512x1024, .f32⟩
  | .local .tc .vmem, ⟨9, _⟩ => ⟨S512x1024, .f32⟩
  | .local .tc .vmem, ⟨10, _⟩ => ⟨S2x512x128, .f32⟩
  | .local .tc .vmem, ⟨11, _⟩ => ⟨S2x512x128, .f32⟩
  | .local .tc .vmem, ⟨12, _⟩ => ⟨S1024x128, .f32⟩
  | .local .tc .vmem, ⟨13, _⟩ => ⟨S512x1024, .f32⟩
  | .local .tc .vmem, ⟨14, _⟩ => ⟨S512x1024, .f32⟩
  | .local .tc .vmem, ⟨15, _⟩ => ⟨S2x512x128, .f32⟩
  | .local .tc .vmem, ⟨16, _⟩ => ⟨S2x512x128, .f32⟩
  | .local .tc .vmem, ⟨17, _⟩ => ⟨S1024x128, .f32⟩
  | .local .tc .vmem, ⟨18, _⟩ => ⟨S512x1024, .f32⟩
  | .local .tc .vmem, ⟨19, _⟩ => ⟨S512x1024, .f32⟩
  | .local .tc .smem, ⟨0, _⟩ => ⟨S1, .f32⟩
  | .local .tc .smem, ⟨1, _⟩ => ⟨S1, .f32⟩
  | .local .tc .smem, ⟨2, _⟩ => ⟨S1, .f32⟩
  | .local .tc .smem, ⟨3, _⟩ => ⟨S1, .f32⟩
  | .local .scVector .vmem, ⟨0, _⟩ => ⟨S136, .i32⟩
  | .local .scVector .vmem, ⟨1, _⟩ => ⟨S128, .i32⟩
  | .local .scVector .vmem, ⟨2, _⟩ => ⟨S128, .i32⟩
  | .local .scVector .vmem, ⟨3, _⟩ => ⟨S128x128, .f32⟩
  | .local .scVector .vmem, ⟨4, _⟩ => ⟨S128x128, .f32⟩
  | .local .scVector .vmem, ⟨5, _⟩ => ⟨S136, .i32⟩
  | .local .scVector .vmem, ⟨6, _⟩ => ⟨S128, .i32⟩
  | .local .scVector .vmem, ⟨7, _⟩ => ⟨S128, .i32⟩
  | .local .scVector .vmem, ⟨8, _⟩ => ⟨S128x128, .f32⟩
  | .local .scVector .vmem, ⟨9, _⟩ => ⟨S128x128, .f32⟩
  | .local .scVector .vmem, ⟨10, _⟩ => ⟨S136, .i32⟩
  | .local .scVector .vmem, ⟨11, _⟩ => ⟨S128, .i32⟩
  | .local .scVector .vmem, ⟨12, _⟩ => ⟨S128, .i32⟩
  | .local .scVector .vmem, ⟨13, _⟩ => ⟨S128x128, .f32⟩
  | .local .scVector .vmem, ⟨14, _⟩ => ⟨S128x128, .f32⟩
  | .local .scVector .vmem, ⟨15, _⟩ => ⟨S136, .i32⟩
  | .local .scVector .vmem, ⟨16, _⟩ => ⟨S128, .i32⟩
  | .local .scVector .vmem, ⟨17, _⟩ => ⟨S128, .i32⟩
  | .local .scVector .vmem, ⟨18, _⟩ => ⟨S128x128, .f32⟩
  | .local .scVector .vmem, ⟨19, _⟩ => ⟨S128x128, .f32⟩
  | _, _ => ⟨S4x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 48 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTables nBuf rfl bufTy 4 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v0_scv : Ref sig .scVector := ⟨.hbm, 4, rfl⟩
abbrev main_arg1_scv : Ref sig .scVector := ⟨.hbm, 1, rfl⟩
abbrev main_v2_scv : Ref sig .scVector := ⟨.hbm, 6, rfl⟩
abbrev main_v3_scv : Ref sig .scVector := ⟨.hbm, 7, rfl⟩
abbrev main_v4_scv : Ref sig .scVector := ⟨.hbm, 8, rfl⟩
abbrev main_v5_scv : Ref sig .scVector := ⟨.hbm, 9, rfl⟩
abbrev cc4_stg1_0 : Ref sig .tc := ⟨.vmem, 0, rfl⟩
abbrev cc4_stg1_1 : Ref sig .tc := ⟨.vmem, 1, rfl⟩
abbrev cc4_stg2_0 : Ref sig .tc := ⟨.vmem, 2, rfl⟩
abbrev cc4_stg3_0 : Ref sig .tc := ⟨.vmem, 3, rfl⟩
abbrev cc4_stg3_1 : Ref sig .tc := ⟨.vmem, 4, rfl⟩
abbrev cc5_stg1_0 : Ref sig .tc := ⟨.vmem, 5, rfl⟩
abbrev cc5_stg1_1 : Ref sig .tc := ⟨.vmem, 6, rfl⟩
abbrev cc5_stg2_0 : Ref sig .tc := ⟨.vmem, 7, rfl⟩
abbrev cc5_stg3_0 : Ref sig .tc := ⟨.vmem, 8, rfl⟩
abbrev cc5_stg3_1 : Ref sig .tc := ⟨.vmem, 9, rfl⟩
abbrev cc6_stg1_0 : Ref sig .tc := ⟨.vmem, 10, rfl⟩
abbrev cc6_stg1_1 : Ref sig .tc := ⟨.vmem, 11, rfl⟩
abbrev cc6_stg2_0 : Ref sig .tc := ⟨.vmem, 12, rfl⟩
abbrev cc6_stg3_0 : Ref sig .tc := ⟨.vmem, 13, rfl⟩
abbrev cc6_stg3_1 : Ref sig .tc := ⟨.vmem, 14, rfl⟩
abbrev cc7_stg1_0 : Ref sig .tc := ⟨.vmem, 15, rfl⟩
abbrev cc7_stg1_1 : Ref sig .tc := ⟨.vmem, 16, rfl⟩
abbrev cc7_stg2_0 : Ref sig .tc := ⟨.vmem, 17, rfl⟩
abbrev cc7_stg3_0 : Ref sig .tc := ⟨.vmem, 18, rfl⟩
abbrev cc7_stg3_1 : Ref sig .tc := ⟨.vmem, 19, rfl⟩
abbrev cc4_stg0_0 : Ref sig .tc := ⟨.smem, 0, rfl⟩
abbrev cc5_stg0_0 : Ref sig .tc := ⟨.smem, 1, rfl⟩
abbrev cc6_stg0_0 : Ref sig .tc := ⟨.smem, 2, rfl⟩
abbrev cc7_stg0_0 : Ref sig .tc := ⟨.smem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc1_scratch3 : Ref sig .scVector := ⟨.vmem, 8, rfl⟩
abbrev cc1_scratch4 : Ref sig .scVector := ⟨.vmem, 9, rfl⟩
abbrev cc2_scratch0 : Ref sig .scVector := ⟨.vmem, 10, rfl⟩
abbrev cc2_scratch1 : Ref sig .scVector := ⟨.vmem, 11, rfl⟩
abbrev cc2_scratch2 : Ref sig .scVector := ⟨.vmem, 12, rfl⟩
abbrev cc2_scratch3 : Ref sig .scVector := ⟨.vmem, 13, rfl⟩
abbrev cc2_scratch4 : Ref sig .scVector := ⟨.vmem, 14, rfl⟩
abbrev cc3_scratch0 : Ref sig .scVector := ⟨.vmem, 15, rfl⟩
abbrev cc3_scratch1 : Ref sig .scVector := ⟨.vmem, 16, rfl⟩
abbrev cc3_scratch2 : Ref sig .scVector := ⟨.vmem, 17, rfl⟩
abbrev cc3_scratch3 : Ref sig .scVector := ⟨.vmem, 18, rfl⟩
abbrev cc3_scratch4 : Ref sig .scVector := ⟨.vmem, 19, rfl⟩
abbrev cc4_sem0_0 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem1_0 : DmaSem sig := 37
abbrev cc6_sem1_1 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  ![v3.toNat]
def k0_cond1 (i : grid0.Coords) : BitVec 1 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  let c0_i32_0 : BitVec 32 := 0#32
  let v4 : BitVec 1 := Scalar.cmpi .sgt v3 c0_i32_0
  let v5 : BitVec 32 := Scalar.extui v4
  let c0_i32_1 : BitVec 32 := 0#32
  let v6 : BitVec 1 := Scalar.cmpi .ne v5 c0_i32_1
  v6

def k0_off2 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  let c8_i32 : BitVec 32 := 8#32
  let v805 : BitVec 32 := Scalar.subi v3 c8_i32
  ![v805.toNat]
def k0_off3 (i : grid0.Coords) : Fin 3 → Nat :=
  let c0_i32_281 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_280 : BitVec 32 := 128#32
  let v786 : BitVec 32 := Scalar.muli v1 c128_i32_280
  let c0_i32_282 : BitVec 32 := 0#32
  ![0, v786.toNat, 0]
def k0_off4 (i : grid0.Coords) : Fin 3 → Nat :=
  let c1_i32_287 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_286 : BitVec 32 := 128#32
  let v792 : BitVec 32 := Scalar.muli v1 c128_i32_286
  let c0_i32_288 : BitVec 32 := 0#32
  ![1, v792.toNat, 0]
abbrev grid1 : Pipeline.Grid := ⟨2, ![2, 16], ![false, false]⟩

def k1_off1 (i : grid1.Coords) : Fin 1 → Nat :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c4096_i32 v2
  ![v3.toNat]
def k1_cond1 (i : grid1.Coords) : BitVec 1 :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c4096_i32 v2
  let c0_i32 : BitVec 32 := 0#32
  let v4 : BitVec 1 := Scalar.cmpi .sgt v3 c0_i32
  let v5 : BitVec 32 := Scalar.extui v4
  let c0_i32_0 : BitVec 32 := 0#32
  let v6 : BitVec 1 := Scalar.cmpi .ne v5 c0_i32_0
  v6

def k1_off2 (i : grid1.Coords) : Fin 1 → Nat :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c4096_i32 v2
  let c8_i32 : BitVec 32 := 8#32
  let v805 : BitVec 32 := Scalar.subi v3 c8_i32
  ![v805.toNat]
def k1_off3 (i : grid1.Coords) : Fin 3 → Nat :=
  let c0_i32_280 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_279 : BitVec 32 := 128#32
  let v786 : BitVec 32 := Scalar.muli v1 c128_i32_279
  let c0_i32_281 : BitVec 32 := 0#32
  ![0, v786.toNat, 0]
def k1_off4 (i : grid1.Coords) : Fin 3 → Nat :=
  let c1_i32_286 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_285 : BitVec 32 := 128#32
  let v792 : BitVec 32 := Scalar.muli v1 c128_i32_285
  let c0_i32_287 : BitVec 32 := 0#32
  ![1, v792.toNat, 0]
abbrev grid2 : Pipeline.Grid := ⟨2, ![2, 16], ![false, false]⟩

def k2_off1 (i : grid2.Coords) : Fin 1 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c8192_i32 v2
  ![v3.toNat]
def k2_cond1 (i : grid2.Coords) : BitVec 1 :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c8192_i32 v2
  let c0_i32 : BitVec 32 := 0#32
  let v4 : BitVec 1 := Scalar.cmpi .sgt v3 c0_i32
  let v5 : BitVec 32 := Scalar.extui v4
  let c0_i32_0 : BitVec 32 := 0#32
  let v6 : BitVec 1 := Scalar.cmpi .ne v5 c0_i32_0
  v6

def k2_off2 (i : grid2.Coords) : Fin 1 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c8192_i32 v2
  let c8_i32 : BitVec 32 := 8#32
  let v805 : BitVec 32 := Scalar.subi v3 c8_i32
  ![v805.toNat]
def k2_off3 (i : grid2.Coords) : Fin 3 → Nat :=
  let c0_i32_280 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_279 : BitVec 32 := 128#32
  let v786 : BitVec 32 := Scalar.muli v1 c128_i32_279
  let c0_i32_281 : BitVec 32 := 0#32
  ![0, v786.toNat, 0]
def k2_off4 (i : grid2.Coords) : Fin 3 → Nat :=
  let c1_i32_286 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_285 : BitVec 32 := 128#32
  let v792 : BitVec 32 := Scalar.muli v1 c128_i32_285
  let c0_i32_287 : BitVec 32 := 0#32
  ![1, v792.toNat, 0]
abbrev grid3 : Pipeline.Grid := ⟨2, ![2, 16], ![false, false]⟩

def k3_off1 (i : grid3.Coords) : Fin 1 → Nat :=
  let c12288_i32 : BitVec 32 := 12288#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c12288_i32 v2
  ![v3.toNat]
def k3_cond1 (i : grid3.Coords) : BitVec 1 :=
  let c12288_i32 : BitVec 32 := 12288#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c12288_i32 v2
  let c0_i32 : BitVec 32 := 0#32
  let v4 : BitVec 1 := Scalar.cmpi .sgt v3 c0_i32
  let v5 : BitVec 32 := Scalar.extui v4
  let c0_i32_0 : BitVec 32 := 0#32
  let v6 : BitVec 1 := Scalar.cmpi .ne v5 c0_i32_0
  v6

def k3_off2 (i : grid3.Coords) : Fin 1 → Nat :=
  let c12288_i32 : BitVec 32 := 12288#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c12288_i32 v2
  let c8_i32 : BitVec 32 := 8#32
  let v805 : BitVec 32 := Scalar.subi v3 c8_i32
  ![v805.toNat]
def k3_off3 (i : grid3.Coords) : Fin 3 → Nat :=
  let c0_i32_280 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_279 : BitVec 32 := 128#32
  let v786 : BitVec 32 := Scalar.muli v1 c128_i32_279
  let c0_i32_281 : BitVec 32 := 0#32
  ![0, v786.toNat, 0]
def k3_off4 (i : grid3.Coords) : Fin 3 → Nat :=
  let c1_i32_286 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_285 : BitVec 32 := 128#32
  let v792 : BitVec 32 := Scalar.muli v1 c128_i32_285
  let c0_i32_287 : BitVec 32 := 0#32
  ![1, v792.toNat, 0]
abbrev grid4 : Pipeline.Grid := ⟨1, ![8], ![false]⟩

def cc4_transform_0 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .smem S1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S2x512x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1024x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

abbrev stage5_0 : Fin 1 → Memref sig .tc .smem S1 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S2x512x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1024x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

abbrev stage6_0 : Fin 1 → Memref sig .tc .smem S1 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S2x512x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1024x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

abbrev stage7_0 : Fin 1 → Memref sig .tc .smem S1 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S2x512x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1024x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S512x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S4x4096 : Shape := ⟨2, ![4, 4096]⟩
abbrev S1000000x128 : Shape := ⟨2, ![1000000, 128]⟩
abbrev S1024x128 : Shape := ⟨2, ![1024, 128]⟩
abbrev S_ : Shape := ⟨0, ![]⟩
abbrev S4x1 : Shape := ⟨2, ![4, 1]⟩
abbrev S4x4095 : Shape := ⟨2, ![4, 4095]⟩
abbrev S4x4096x1 : Shape := ⟨3, ![4, 4096, 1]⟩
abbrev S1 : Shape := ⟨1, ![1]⟩
abbrev S1x1x1 : Shape := ⟨3, ![1, 1, 1]⟩
abbrev S4x4096x128 : Shape := ⟨3, ![4, 4096, 128]⟩
abbrev S4x2 : Shape := ⟨2, ![4, 2]⟩
abbrev S4x4094 : Shape := ⟨2, ![4, 4094]⟩
abbrev S4x4096x1024 : Shape := ⟨3, ![4, 4096, 1024]⟩

abbrev nBuf : Space → Nat
  | .hbm => 127
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S1000000x128, .f32⟩
  | .hbm, ⟨2, _⟩ => ⟨S1024x128, .f32⟩
  | .hbm, ⟨3, _⟩ => ⟨S_, .f32⟩
  | .hbm, ⟨4, _⟩ => ⟨S4x1, .i32⟩
  | .hbm, ⟨5, _⟩ => ⟨S_, .i32⟩
  | .hbm, ⟨6, _⟩ => ⟨S4x1, .i32⟩
  | .hbm, ⟨7, _⟩ => ⟨S4x4095, .i32⟩
  | .hbm, ⟨8, _⟩ => ⟨S_, .i32⟩
  | .hbm, ⟨9, _⟩ => ⟨S4x4095, .i32⟩
  | .hbm, ⟨10, _⟩ => ⟨S4x4095, .i32⟩
  | .hbm, ⟨11, _⟩ => ⟨S4x4095, .i32⟩
  | .hbm, ⟨12, _⟩ => ⟨S_, .i32⟩
  | .hbm, ⟨13, _⟩ => ⟨S4x4095, .i32⟩
  | .hbm, ⟨14, _⟩ => ⟨S4x4095, .i32⟩
  | .hbm, ⟨15, _⟩ => ⟨S4x4095, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S4x4095, .i32⟩
  | .hbm, ⟨22, _⟩ => ⟨S4x4095, .i32⟩
  | .hbm, ⟨23, _⟩ => ⟨S_, .i32⟩
  | .hbm, ⟨24, _⟩ => ⟨S4x4095, .i32⟩
  | .hbm, ⟨25, _⟩ => ⟨S4x4095, .i1⟩
  | .hbm, ⟨26, _⟩ => ⟨S_, .i32⟩
  | .hbm, ⟨27, _⟩ => ⟨S4x4095, .i32⟩
  | .hbm, ⟨28, _⟩ => ⟨S4x4095, .i1⟩
  | .hbm, ⟨29, _⟩ => ⟨S_, .i32⟩
  | .hbm, ⟨30, _⟩ => ⟨S_, .i1⟩
  | .hbm, ⟨31, _⟩ => ⟨S4x4095, .i1⟩
  | .hbm, ⟨32, _⟩ => ⟨S4x4095, .i1⟩
  | .hbm, ⟨33, _⟩ => ⟨S4x4095, .i1⟩
  | .hbm, ⟨34, _⟩ => ⟨S4x4095, .i32⟩
  | .hbm, ⟨35, _⟩ => ⟨S4x4095, .i32⟩
  | .hbm, ⟨36, _⟩ => ⟨S4x4095, .i32⟩
  | .hbm, ⟨37, _⟩ => ⟨S4x4096, .i32⟩
  | .hbm, ⟨38, _⟩ => ⟨S_, .i32⟩
  | .hbm, ⟨39, _⟩ => ⟨S4x4096, .i32⟩
  | .hbm, ⟨40, _⟩ => ⟨S4x4096, .i1⟩
  | .hbm, ⟨41, _⟩ => ⟨S_, .i32⟩
  | .hbm, ⟨42, _⟩ => ⟨S4x4096, .i32⟩
  | .hbm, ⟨43, _⟩ => ⟨S4x4096, .i32⟩
  | .hbm, ⟨44, _⟩ => ⟨S4x4096, .i32⟩
  | .hbm, ⟨45, _⟩ => ⟨S4x4096x1, .i32⟩
  | .hbm, ⟨46, _⟩ => ⟨S1, .i32⟩
  | .hbm, ⟨47, _⟩ => ⟨S_, .i32⟩
  | .hbm, ⟨48, _⟩ => ⟨S4x4096x1, .i32⟩
  | .hbm, ⟨49, _⟩ => ⟨S4x4096x1, .i1⟩
  | .hbm, ⟨50, _⟩ => ⟨S1x1x1, .i32⟩
  | .hbm, ⟨51, _⟩ => ⟨S4x4096x1, .i32⟩
  | .hbm, ⟨52, _⟩ => ⟨S4x4096x1, .i1⟩
  | .hbm, ⟨53, _⟩ => ⟨S4x4096x1, .i1⟩
  | .hbm, ⟨54, _⟩ => ⟨S_, .i1⟩
  | .hbm, ⟨55, _⟩ => ⟨S4x4096, .i1⟩
  | .hbm, ⟨56, _⟩ => ⟨S4x4096x128, .f32⟩
  | .hbm, ⟨57, _⟩ => ⟨S4x4096x128, .i1⟩
  | .hbm, ⟨58, _⟩ => ⟨S_, .f32⟩
  | .hbm, ⟨59, _⟩ => ⟨S4x4096x128, .f32⟩
  | .hbm, ⟨60, _⟩ => ⟨S4x4096x128, .f32⟩
  | .hbm, ⟨61, _⟩ => ⟨S4x2, .i32⟩
  | .hbm, ⟨62, _⟩ => ⟨S_, .i32⟩
  | .hbm, ⟨63, _⟩ => ⟨S4x2, .i32⟩
  | .hbm, ⟨64, _⟩ => ⟨S4x4094, .i32⟩
  | .hbm, ⟨65, _⟩ => ⟨S_, .i32⟩
  | .hbm, ⟨66, _⟩ => ⟨S4x4094, .i32⟩
  | .hbm, ⟨67, _⟩ => ⟨S4x4094, .i32⟩
  | .hbm, ⟨68, _⟩ => ⟨S4x4094, .i32⟩
  | .hbm, ⟨69, _⟩ => ⟨S_, .i32⟩
  | .hbm, ⟨70, _⟩ => ⟨S4x4094, .i32⟩
  | .hbm, ⟨71, _⟩ => ⟨S4x4094, .i32⟩
  | .hbm, ⟨72, _⟩ => ⟨S4x4094, .i32⟩
  | .hbm, ⟨73, _⟩ => ⟨S4x4094, .i32⟩
  | .hbm, ⟨74, _⟩ => ⟨S_, .i32⟩
  | .hbm, ⟨75, _⟩ => ⟨S4x4094, .i32⟩
  | .hbm, ⟨76, _⟩ => ⟨S4x4094, .i32⟩
  | .hbm, ⟨77, _⟩ => ⟨S4x4094, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S4x4094, .i32⟩
  | .hbm, ⟨84, _⟩ => ⟨S4x4094, .i32⟩
  | .hbm, ⟨85, _⟩ => ⟨S_, .i32⟩
  | .hbm, ⟨86, _⟩ => ⟨S4x4094, .i32⟩
  | .hbm, ⟨87, _⟩ => ⟨S4x4094, .i1⟩
  | .hbm, ⟨88, _⟩ => ⟨S_, .i32⟩
  | .hbm, ⟨89, _⟩ => ⟨S4x4094, .i32⟩
  | .hbm, ⟨90, _⟩ => ⟨S4x4094, .i1⟩
  | .hbm, ⟨91, _⟩ => ⟨S_, .i32⟩
  | .hbm, ⟨92, _⟩ => ⟨S_, .i1⟩
  | .hbm, ⟨93, _⟩ => ⟨S4x4094, .i1⟩
  | .hbm, ⟨94, _⟩ => ⟨S4x4094, .i1⟩
  | .hbm, ⟨95, _⟩ => ⟨S4x4094, .i1⟩
  | .hbm, ⟨96, _⟩ => ⟨S4x4094, .i32⟩
  | .hbm, ⟨97, _⟩ => ⟨S4x4094, .i32⟩
  | .hbm, ⟨98, _⟩ => ⟨S4x4094, .i32⟩
  | .hbm, ⟨99, _⟩ => ⟨S4x4096, .i32⟩
  | .hbm, ⟨100, _⟩ => ⟨S_, .i32⟩
  | .hbm, ⟨101, _⟩ => ⟨S4x4096, .i32⟩
  | .hbm, ⟨102, _⟩ => ⟨S4x4096, .i1⟩
  | .hbm, ⟨103, _⟩ => ⟨S_, .i32⟩
  | .hbm, ⟨104, _⟩ => ⟨S4x4096, .i32⟩
  | .hbm, ⟨105, _⟩ => ⟨S4x4096, .i32⟩
  | .hbm, ⟨106, _⟩ => ⟨S4x4096, .i32⟩
  | .hbm, ⟨107, _⟩ => ⟨S4x4096x1, .i32⟩
  | .hbm, ⟨108, _⟩ => ⟨S1, .i32⟩
  | .hbm, ⟨109, _⟩ => ⟨S_, .i32⟩
  | .hbm, ⟨110, _⟩ => ⟨S4x4096x1, .i32⟩
  | .hbm, ⟨111, _⟩ => ⟨S4x4096x1, .i1⟩
  | .hbm, ⟨112, _⟩ => ⟨S1x1x1, .i32⟩
  | .hbm, ⟨113, _⟩ => ⟨S4x4096x1, .i32⟩
  | .hbm, ⟨114, _⟩ => ⟨S4x4096x1, .i1⟩
  | .hbm, ⟨115, _⟩ => ⟨S4x4096x1, .i1⟩
  | .hbm, ⟨116, _⟩ => ⟨S_, .i1⟩
  | .hbm, ⟨117, _⟩ => ⟨S4x4096, .i1⟩
  | .hbm, ⟨118, _⟩ => ⟨S4x4096x128, .f32⟩
  | .hbm, ⟨119, _⟩ => ⟨S4x4096x128, .i1⟩
  | .hbm, ⟨120, _⟩ => ⟨S_, .f32⟩
  | .hbm, ⟨121, _⟩ => ⟨S4x4096x128, .f32⟩
  | .hbm, ⟨122, _⟩ => ⟨S4x4096x128, .f32⟩
  | .hbm, ⟨123, _⟩ => ⟨S4x4096x128, .f32⟩
  | .hbm, ⟨124, _⟩ => ⟨S4x4096x1024, .f32⟩
  | .hbm, ⟨125, _⟩ => ⟨S4x4096x1024, .f32⟩
  | .hbm, ⟨126, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_call0_c : Ref sig .tc := ⟨.hbm, 17, rfl⟩
abbrev main_call0_v0 : Ref sig .tc := ⟨.hbm, 18, rfl⟩
abbrev main_call0_c_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_c_1 : Ref sig .tc := ⟨.hbm, 23, rfl⟩
abbrev main_call0_v4 : Ref sig .tc := ⟨.hbm, 24, rfl⟩
abbrev main_call0_v5 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_c_3 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_v9 : Ref sig .tc := ⟨.hbm, 36, rfl⟩
abbrev main_v10 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v11 : Ref sig .tc := ⟨.hbm, 60, rfl⟩
abbrev main_v12 : Ref sig .tc := ⟨.hbm, 61, rfl⟩
abbrev main_c_3 : Ref sig .tc := ⟨.hbm, 62, rfl⟩
abbrev main_v13 : Ref sig .tc := ⟨.hbm, 63, rfl⟩
abbrev main_v14 : Ref sig .tc := ⟨.hbm, 64, rfl⟩
abbrev main_c_4 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_c_5 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_c_6 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_c_7 : Ref sig .tc := ⟨.hbm, 78, rfl⟩
abbrev main_call2_c : Ref sig .tc := ⟨.hbm, 79, rfl⟩
abbrev main_call2_v0 : Ref sig .tc := ⟨.hbm, 80, rfl⟩
abbrev main_call2_c_0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_c_1 : Ref sig .tc := ⟨.hbm, 85, rfl⟩
abbrev main_call2_v4 : Ref sig .tc := ⟨.hbm, 86, rfl⟩
abbrev main_call2_v5 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_c_3 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_v25 : Ref sig .tc := ⟨.hbm, 98, rfl⟩
abbrev main_v26 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩

abbrev nD : Nat := 1
abbrev τ : Topo := Topo.v7x

variable {F : FTy → Type} [FloatOps F]
-- ==== Proof.Hash.lean ====
/-
  The hashes one tile computes, sixteen positions at a time, as functions of the vectors it reads:
  the reduction modulo 999999, the column of a position in its sequence, and the two table rows.
-/
module

public import proofs.«01_k».proof.Proof.Gen.KernelIdeal

@[expose] public section

noncomputable section

namespace Cert.Proof.Hash

open Cert.KernelIdeal Cert.KernelIdeal.Gen
open Idealize.ShloMosaic Idealize.SL.Sem

/-- One folding step of the reduction: the high part times 2^20 mod 999999, plus the low 20 bits. -/
def foldVec (x : IVec S16 32) : IVec S16 32 :=
  addi (muli (shrsi x (broadcast S16 20#32)) (broadcast S16 48577#32)) (andi x (broadcast S16 1048575#32))

/-- One subtraction of 999999 where the word is at least that. -/
def capVec (x : IVec S16 32) : IVec S16 32 :=
  select (cmpi .sge x (broadcast S16 999999#32)) (subi x (broadcast S16 999999#32)) x

/-- One addition of 999999 where the word is negative. -/
def liftVec (x : IVec S16 32) : IVec S16 32 :=
  select (cmpi .slt x (broadcast S16 0#32)) (addi x (broadcast S16 999999#32)) x

/-- The reduction modulo 999999: three folding steps, then one subtraction and one addition. -/
def modVec (x : IVec S16 32) : IVec S16 32 := liftVec (capVec (foldVec (foldVec (foldVec x))))

/-- A vector of tokens times a constant. -/
def scaleVec (k : BitVec 32) (t : IVec S16 32) : IVec S16 32 :=
  muli (shapeCast S16 t shapeCasts_S16_S16) (broadcast S16 k)

/-- The columns of sixteen consecutive positions, the first being `v + o`. -/
def colVec (v o : BitVec 32) : IVec S16 32 :=
  andi (addi (broadcast S16 (Scalar.addi v o)) (iota .scVector S16 32 [0] iota_S16_d0_w32_scVector)) (broadcast S16 4095#32)

/-- The bigram rows of sixteen consecutive positions. -/
def biVec (v o : BitVec 32) (t0 t1 : IVec S16 32) : IVec S16 32 :=
  select (cmpi .eq (colVec v o) (broadcast S16 0#32)) (broadcast S16 999999#32)
    (modVec (xori (scaleVec 36313#32 t0) (scaleVec 27191#32 t1)))

/-- The trigram rows of sixteen consecutive positions. -/
def triVec (v o : BitVec 32) (t0 t1 t2 : IVec S16 32) : IVec S16 32 :=
  select (cmpi .sle (colVec v o) (broadcast S16 1#32)) (broadcast S16 999999#32)
    (modVec (xori (xori (scaleVec 36313#32 t0) (scaleVec 27191#32 t1)) (scaleVec 51497#32 t2)))

end Cert.Proof.Hash

end
-- ==== Proof.Body.lean ====
/-
  The task of one tile, written once for all four calls: what the four printed bodies have in common,
  with the call's constants as parameters, and the equation that each printed body is this program.
-/
module

public import proofs.«01_k».proof.Proof.Hash
public import proofs.«01_k».proof.Proof.Gen.KernelIdeal.Skeleton

@[expose] public section

set_option maxRecDepth 65536

noncomputable section

namespace Cert.Proof.Body

open Cert.KernelIdeal Cert.KernelIdeal.Gen Cert.Proof.Hash
open Idealize.ShloMosaic Idealize.SL.Sem

variable {F : FTy → Type} [FloatOps F]

/-- Sixteen lanes from an offset up to 120 lie in the 136 tokens of a tile's scratch. -/
theorem inb136 {o k : ℕ} (h : o + k ≤ 120) : ∀ a, (![o + k] : Fin 1 → ℕ) a + S16.size a ≤ S136.size a := by
  intro a
  match a with
  | ⟨0, _⟩ => show o + k + 16 ≤ 136; omega

/-- Sixteen lanes from an offset up to 112 lie in a list of 128 rows. -/
theorem inb128 {o : ℕ} (h : o ≤ 112) : ∀ a, (![o] : Fin 1 → ℕ) a + S16.size a ≤ S128.size a := by
  intro a
  match a with
  | ⟨0, _⟩ => show o + 16 ≤ 128; omega

section

variable (c : Fin τ.nSC) (s : Fin τ.nSub)
variable (arg2 : Memref sig .scVector .hbm S16384 .i32) (arg3 : Memref sig .scVector .hbm S1000000x128 .f32)
  (arg4 : Memref sig .scVector .hbm S2x4096x128 .f32)
  (arg5 : Memref sig .scVector .vmem S136 .i32) (arg6 arg7 : Memref sig .scVector .vmem S128 .i32)
  (arg8 : Memref sig .scVector .vmem S128x128 .f32) (harg8 : arg8.IsWhole)
  (arg9 : Memref sig .scVector .vmem S128x128 .f32) (harg9 : arg9.IsWhole)
  (arg10 arg11 arg12 arg13 r0 r1 : DmaSems sig S_)

/-- Sixteen positions of the tile's 128, from the `o`-th on: the three shifted token vectors are read,
    and the two lists of table rows written. -/
def chunk (v : BitVec 32) (o : ℕ) (ho : o ≤ 112) :
    Prog (TpuEff nD τ sig (Elt F) Λ₀ (.scVector c s)) PUnit := do
  let t0 : Vec F S16 .i32 ← Prog.lift (.load arg5 (Rect.unit (s := S136) ![o + 8] S16.size (inb136 (by omega))).toLoadRect (View.loadsAt_vmem h_S16))
  let t1 : Vec F S16 .i32 ← Prog.lift (.load arg5 (Rect.unit (s := S136) ![o + 7] S16.size (inb136 (by omega))).toLoadRect (View.loadsAt_vmem h_S16))
  let t2 : Vec F S16 .i32 ← Prog.lift (.load arg5 (Rect.unit (s := S136) ![o + 6] S16.size (inb136 (by omega))).toLoadRect (View.loadsAt_vmem h_S16))
  let _ : Vec F S16 .i32 ← Prog.lift (.load arg6 (Rect.unit (s := S128) ![o] S16.size (inb128 ho)).toLoadRect (View.loadsAt_vmem h_S16))
  Prog.lift (.store arg6 (Rect.unit (s := S128) ![o] S16.size (inb128 ho))
    (shapeCast S16 (biVec v (BitVec.ofNat 32 o) t0 t1) shapeCasts_S16_S16) Finset.univ (View.stores_vmem_bits_univ h_S16 rfl) (.inl rfl))
  let _ : Vec F S16 .i32 ← Prog.lift (.load arg7 (Rect.unit (s := S128) ![o] S16.size (inb128 ho)).toLoadRect (View.loadsAt_vmem h_S16))
  Prog.lift (.store arg7 (Rect.unit (s := S128) ![o] S16.size (inb128 ho))
    (shapeCast S16 (triVec v (BitVec.ofNat 32 o) t0 t1 t2) shapeCasts_S16_S16) Finset.univ (View.stores_vmem_bits_univ h_S16 rfl) (.inl rfl))

variable (off1 : Fin 1 → ℕ) (h1 : ∀ a, off1 a + S128.size a ≤ S16384.size a)
  (cond : BitVec 1) (off2 : Fin 1 → ℕ) (h2 : cond = 1#1 → ∀ a, off2 a + S8.size a ≤ S16384.size a)
  (off3 : Fin 3 → ℕ) (h3 : ∀ a, off3 a + S1x128x128.size a ≤ S2x4096x128.size a)
  (off4 : Fin 3 → ℕ) (h4 : ∀ a, off4 a + S1x128x128.size a ≤ S2x4096x128.size a)

/-- A tile's 128 rows of one of the two halves of the call's result. -/
abbrev rowsOf (off : Fin 3 → ℕ) (h : ∀ a, off a + S1x128x128.size a ≤ S2x4096x128.size a) :
    Memref sig .scVector .hbm S128x128 .f32 :=
  (arg4.slice (Rect.unit (s := S2x4096x128) off S1x128x128.size h) (fun _ => rfl)).squeeze S128x128 squeezes_S1x128x128_S128x128

/-- The whole table, as the gathers name it. -/
abbrev tableOf : Memref sig .scVector .hbm S1000000x128 .f32 :=
  arg3.slice (Rect.unit (s := S1000000x128) ![0, 0] S1000000x128.size inb_S1000000x128_S1000000x128_0_0) (fun _ => rfl)

/-- The tile's own 128 tokens come in. -/
def fetch : Prog (TpuEff nD τ sig (Elt F) Λ₀ (.scVector c s)) PUnit := do
  Prog.lift (.enqueueDma (arg2.slice (Rect.unit (s := S16384) off1 S128.size h1) (fun _ => rfl))
    (.here (arg5.slice (Rect.unit (s := S136) ![8] S128.size inb_S136_S128_8) (fun _ => rfl))) (.dma r0.sem)
    (View.wordExact_bits rfl) (View.wordExact_bits rfl) ⟨Or.inl rfl, trivial⟩)
  Prog.lift (.waitDma2 r0.sem (arg2.slice (Rect.unit (s := S16384) off1 S128.size h1) (fun _ => rfl))
    (arg5.slice (Rect.unit (s := S136) ![8] S128.size inb_S136_S128_8) (fun _ => rfl)) (View.wordExact_bits rfl) (View.wordExact_bits rfl))

/-- The eight tokens before them come in, where there are any. -/
def fetchPrev : Prog (TpuEff nD τ sig (Elt F) Λ₀ (.scVector c s)) PUnit :=
  if h : cond = 1#1 then do
    Prog.lift (.enqueueDma (arg2.slice (Rect.unit (s := S16384) off2 S8.size (h2 h)) (fun _ => rfl))
      (.here (arg5.slice (Rect.unit (s := S136) ![0] S8.size inb_S136_S8_0) (fun _ => rfl))) (.dma r1.sem)
      (View.wordExact_bits rfl) (View.wordExact_bits rfl) ⟨Or.inl rfl, trivial⟩)
    Prog.lift (.waitDma2 r1.sem (arg2.slice (Rect.unit (s := S16384) off2 S8.size (h2 h)) (fun _ => rfl))
      (arg5.slice (Rect.unit (s := S136) ![0] S8.size inb_S136_S8_0) (fun _ => rfl)) (View.wordExact_bits rfl) (View.wordExact_bits rfl))
    pure ⟨⟩
  else do
    pure ⟨⟩

/-- The 128 rows of each list are gathered from the table and copied out to the call's result. -/
def gathers : Prog (TpuEff nD τ sig (Elt F) Λ₀ (.scVector c s)) PUnit := do
  SparseCore.enqueueIndirectGather rfl (tableOf arg3) arg8 gathers_S1000000x128_S128x128 arg6 rfl arg10.sem (View.wordExact_bits rfl) rfl (Or.inl rfl)
  SparseCore.enqueueIndirectGather rfl (tableOf arg3) arg9 gathers_S1000000x128_S128x128 arg7 rfl arg11.sem (View.wordExact_bits rfl) rfl (Or.inl rfl)
  SparseCore.waitIndirectGather arg10.sem (tableOf arg3) arg8 (View.wordExact_bits rfl) harg8.wordExact
  Prog.lift (.enqueueDma arg8 (.here (rowsOf arg4 off3 h3)) (.dma arg12.sem) harg8.wordExact ((View.wordExact_bits rfl).reshape _ _) ⟨Or.inl rfl, trivial⟩)
  SparseCore.waitIndirectGather arg11.sem (tableOf arg3) arg9 (View.wordExact_bits rfl) harg9.wordExact
  Prog.lift (.enqueueDma arg9 (.here (rowsOf arg4 off4 h4)) (.dma arg13.sem) harg9.wordExact ((View.wordExact_bits rfl).reshape _ _) ⟨Or.inl rfl, trivial⟩)
  Prog.lift (.waitDma2 arg12.sem arg8 (rowsOf arg4 off3 h3) harg8.wordExact ((View.wordExact_bits rfl).reshape _ _))
  Prog.lift (.waitDma2 arg13.sem arg9 (rowsOf arg4 off4 h4) harg9.wordExact ((View.wordExact_bits rfl).reshape _ _))
  pure ⟨⟩

/-- The eight groups of sixteen positions, in order. -/
def chunks (v : BitVec 32) : Prog (TpuEff nD τ sig (Elt F) Λ₀ (.scVector c s)) PUnit := do
  chunk c s arg5 arg6 arg7 v 0 (by omega)
  chunk c s arg5 arg6 arg7 v 16 (by omega)
  chunk c s arg5 arg6 arg7 v 32 (by omega)
  chunk c s arg5 arg6 arg7 v 48 (by omega)
  chunk c s arg5 arg6 arg7 v 64 (by omega)
  chunk c s arg5 arg6 arg7 v 80 (by omega)
  chunk c s arg5 arg6 arg7 v 96 (by omega)
  chunk c s arg5 arg6 arg7 v 112 (by omega)

/-- One tile's task: the tokens in, the lists of rows computed, the rows gathered and copied out. -/
def tile (v : BitVec 32) : Prog (TpuEff nD τ sig (Elt F) Λ₀ (.scVector c s)) PUnit := do
  fetch c s arg2 arg5 r0 off1 h1
  fetchPrev c s arg2 arg5 r1 cond off2 h2
  chunks c s arg5 arg6 arg7 v
  gathers c s arg3 arg4 arg6 arg7 arg8 harg8 arg9 harg9 arg10 arg11 arg12 arg13 off3 h3 off4 h4

end

/-- The tile's number, twice the tile's index on its SparseCore plus the SparseCore's. -/
def tileNo (x y : BitVec 32) : BitVec 32 := Scalar.addi (Scalar.muli y 2#32) x

/-- The position of a tile's first token: the call's first position plus 128 times the tile's number. -/
def baseWord (k : BitVec 32) (i : grid0.Coords) : BitVec 32 :=
  Scalar.addi k (Scalar.muli (tileNo (BitVec.ofNat 32 (i 0).val) (BitVec.ofNat 32 (i 1).val)) 128#32)

/-- Two sequences are equal when their first programs are and their rests are. -/
theorem bind_eq {α β : Type} {c : Fin τ.nSC} {s : Fin τ.nSub} {x y : Prog (TpuEff nD τ sig (Elt F) Λ₀ (.scVector c s)) α}
    {f g : α → Prog (TpuEff nD τ sig (Elt F) Λ₀ (.scVector c s)) β} (h : x = y) (h' : ∀ a, f a = g a) : x >>= f = y >>= g := by
  rw [h, funext h']

section

variable (i : grid0.Coords) (arg2 : Memref sig .scVector .hbm S16384 .i32) (harg2 : arg2.IsWhole)
  (arg3 : Memref sig .scVector .hbm S1000000x128 .f32) (harg3 : arg3.IsWhole)
  (arg4 : Memref sig .scVector .hbm S2x4096x128 .f32) (harg4 : arg4.IsWhole)
  (arg5 : Memref sig .scVector .vmem S136 .i32) (harg5 : arg5.IsWhole)
  (arg6 : Memref sig .scVector .vmem S128 .i32) (harg6 : arg6.IsWhole)
  (arg7 : Memref sig .scVector .vmem S128 .i32) (harg7 : arg7.IsWhole)
  (arg8 : Memref sig .scVector .vmem S128x128 .f32) (harg8 : arg8.IsWhole)
  (arg9 : Memref sig .scVector .vmem S128x128 .f32) (harg9 : arg9.IsWhole)
  (arg10 arg11 arg12 arg13 r0 r1 : DmaSems sig S_)

/-- The body of call 0 is the common program at the call's constants. -/
theorem body0_eq :
    cc0__sc_body (F := F) i arg2 harg2 arg3 harg3 arg4 harg4 arg5 harg5 arg6 harg6 arg7 harg7 arg8 harg8 arg9 harg9 arg10 arg11 arg12 arg13 r0 r1
      = tile ((i 0).castLE hcore0) ((i 1).castLE hsub0) arg2 arg3 arg4 arg5 arg6 arg7 arg8 harg8 arg9 harg9 arg10 arg11 arg12 arg13 r0 r1
          (k0_off1 i) (k0_off1_inb i) (k0_cond1 i) (k0_off2 i) (k0_off2_inb i) (k0_off3 i) (k0_off3_inb i) (k0_off4 i) (k0_off4_inb i)
          (baseWord 0#32 i) := by
  by_cases hc : k0_cond1 i = 1#1 <;>
    simp only [cc0__sc_body_eq_skeleton, cc0__sc_body_skel,
      k0_part1_eq_skeleton, k0_part1_skel,
      k0_part2_eq_skeleton, k0_part2_skel,
      k0_part3_eq_skeleton, k0_part3_skel,
      k0_part4_eq_skeleton, k0_part4_skel,
      k0_part5_eq_skeleton, k0_part5_skel,
      k0_part6_eq_skeleton, k0_part6_skel,
      k0_part7_eq_skeleton, k0_part7_skel,
      k0_part8_eq_skeleton, k0_part8_skel,
      k0_part9_eq_skeleton, k0_part9_skel,
      k0_part10_eq_skeleton, k0_part10_skel,
      k0_part11_eq_skeleton, k0_part11_skel,
      k0_part12_eq_skeleton, k0_part12_skel,
      k0_part13_eq_skeleton, k0_part13_skel,
      k0_part14_eq_skeleton, k0_part14_skel,
      k0_part15_eq_skeleton, k0_part15_skel,
      k0_part16_eq_skeleton, k0_part16_skel,
      k0_part17_eq_skeleton, k0_part17_skel,
      k0_part18_eq_skeleton, k0_part18_skel,
      k0_part19_eq_skeleton, k0_part19_skel,
      k0_part20_eq_skeleton, k0_part20_skel,
      tile, fetch, fetchPrev, chunks, chunk, gathers, bind_assoc, pure_bind, hc, ↓reduceDIte] <;>
    repeat' (first | refine bind_eq ?_ ?_ | intro _)
  all_goals rfl

/-- The body of call 1 is the common program at the call's constants. -/
theorem body1_eq :
    cc1__sc_body (F := F) i arg2 harg2 arg3 harg3 arg4 harg4 arg5 harg5 arg6 harg6 arg7 harg7 arg8 harg8 arg9 harg9 arg10 arg11 arg12 arg13 r0 r1
      = tile ((i 0).castLE hcore0) ((i 1).castLE hsub0) arg2 arg3 arg4 arg5 arg6 arg7 arg8 harg8 arg9 harg9 arg10 arg11 arg12 arg13 r0 r1
          (k1_off1 i) (k1_off1_inb i) (k1_cond1 i) (k1_off2 i) (k1_off2_inb i) (k1_off3 i) (k1_off3_inb i) (k1_off4 i) (k1_off4_inb i)
          (baseWord 4096#32 i) := by
  by_cases hc : k1_cond1 i = 1#1 <;>
    simp only [cc1__sc_body_eq_skeleton, cc1__sc_body_skel,
      k1_part1_eq_skeleton, k1_part1_skel,
      k1_part2_eq_skeleton, k1_part2_skel,
      k1_part3_eq_skeleton, k1_part3_skel,
      k1_part4_eq_skeleton, k1_part4_skel,
      k1_part5_eq_skeleton, k1_part5_skel,
      k1_part6_eq_skeleton, k1_part6_skel,
      k1_part7_eq_skeleton, k1_part7_skel,
      k1_part8_eq_skeleton, k1_part8_skel,
      k1_part9_eq_skeleton, k1_part9_skel,
      k1_part10_eq_skeleton, k1_part10_skel,
      k1_part11_eq_skeleton, k1_part11_skel,
      k1_part12_eq_skeleton, k1_part12_skel,
      k1_part13_eq_skeleton, k1_part13_skel,
      k1_part14_eq_skeleton, k1_part14_skel,
      k1_part15_eq_skeleton, k1_part15_skel,
      k1_part16_eq_skeleton, k1_part16_skel,
      k1_part17_eq_skeleton, k1_part17_skel,
      k1_part18_eq_skeleton, k1_part18_skel,
      k1_part19_eq_skeleton, k1_part19_skel,
      k1_part20_eq_skeleton, k1_part20_skel,
      tile, fetch, fetchPrev, chunks, chunk, gathers, bind_assoc, pure_bind, hc, ↓reduceDIte] <;>
    repeat' (first | refine bind_eq ?_ ?_ | intro _)
  all_goals rfl

/-- The body of call 2 is the common program at the call's constants. -/
theorem body2_eq :
    cc2__sc_body (F := F) i arg2 harg2 arg3 harg3 arg4 harg4 arg5 harg5 arg6 harg6 arg7 harg7 arg8 harg8 arg9 harg9 arg10 arg11 arg12 arg13 r0 r1
      = tile ((i 0).castLE hcore0) ((i 1).castLE hsub0) arg2 arg3 arg4 arg5 arg6 arg7 arg8 harg8 arg9 harg9 arg10 arg11 arg12 arg13 r0 r1
          (k2_off1 i) (k2_off1_inb i) (k2_cond1 i) (k2_off2 i) (k2_off2_inb i) (k2_off3 i) (k2_off3_inb i) (k2_off4 i) (k2_off4_inb i)
          (baseWord 8192#32 i) := by
  by_cases hc : k2_cond1 i = 1#1 <;>
    simp only [cc2__sc_body_eq_skeleton, cc2__sc_body_skel,
      k2_part1_eq_skeleton, k2_part1_skel,
      k2_part2_eq_skeleton, k2_part2_skel,
      k2_part3_eq_skeleton, k2_part3_skel,
      k2_part4_eq_skeleton, k2_part4_skel,
      k2_part5_eq_skeleton, k2_part5_skel,
      k2_part6_eq_skeleton, k2_part6_skel,
      k2_part7_eq_skeleton, k2_part7_skel,
      k2_part8_eq_skeleton, k2_part8_skel,
      k2_part9_eq_skeleton, k2_part9_skel,
      k2_part10_eq_skeleton, k2_part10_skel,
      k2_part11_eq_skeleton, k2_part11_skel,
      k2_part12_eq_skeleton, k2_part12_skel,
      k2_part13_eq_skeleton, k2_part13_skel,
      k2_part14_eq_skeleton, k2_part14_skel,
      k2_part15_eq_skeleton, k2_part15_skel,
      k2_part16_eq_skeleton, k2_part16_skel,
      k2_part17_eq_skeleton, k2_part17_skel,
      k2_part18_eq_skeleton, k2_part18_skel,
      k2_part19_eq_skeleton, k2_part19_skel,
      k2_part20_eq_skeleton, k2_part20_skel,
      tile, fetch, fetchPrev, chunks, chunk, gathers, bind_assoc, pure_bind, hc, ↓reduceDIte] <;>
    repeat' (first | refine bind_eq ?_ ?_ | intro _)
  all_goals rfl

/-- The body of call 3 is the common program at the call's constants. -/
theorem body3_eq :
    cc3__sc_body (F := F) i arg2 harg2 arg3 harg3 arg4 harg4 arg5 harg5 arg6 harg6 arg7 harg7 arg8 harg8 arg9 harg9 arg10 arg11 arg12 arg13 r0 r1
      = tile ((i 0).castLE hcore0) ((i 1).castLE hsub0) arg2 arg3 arg4 arg5 arg6 arg7 arg8 harg8 arg9 harg9 arg10 arg11 arg12 arg13 r0 r1
          (k3_off1 i) (k3_off1_inb i) (k3_cond1 i) (k3_off2 i) (k3_off2_inb i) (k3_off3 i) (k3_off3_inb i) (k3_off4 i) (k3_off4_inb i)
          (baseWord 12288#32 i) := by
  by_cases hc : k3_cond1 i = 1#1 <;>
    simp only [cc3__sc_body_eq_skeleton, cc3__sc_body_skel,
      k3_part1_eq_skeleton, k3_part1_skel,
      k3_part2_eq_skeleton, k3_part2_skel,
      k3_part3_eq_skeleton, k3_part3_skel,
      k3_part4_eq_skeleton, k3_part4_skel,
      k3_part5_eq_skeleton, k3_part5_skel,
      k3_part6_eq_skeleton, k3_part6_skel,
      k3_part7_eq_skeleton, k3_part7_skel,
      k3_part8_eq_skeleton, k3_part8_skel,
      k3_part9_eq_skeleton, k3_part9_skel,
      k3_part10_eq_skeleton, k3_part10_skel,
      k3_part11_eq_skeleton, k3_part11_skel,
      k3_part12_eq_skeleton, k3_part12_skel,
      k3_part13_eq_skeleton, k3_part13_skel,
      k3_part14_eq_skeleton, k3_part14_skel,
      k3_part15_eq_skeleton, k3_part15_skel,
      k3_part16_eq_skeleton, k3_part16_skel,
      k3_part17_eq_skeleton, k3_part17_skel,
      k3_part18_eq_skeleton, k3_part18_skel,
      k3_part19_eq_skeleton, k3_part19_skel,
      k3_part20_eq_skeleton, k3_part20_skel,
      tile, fetch, fetchPrev, chunks, chunk, gathers, bind_assoc, pure_bind, hc, ↓reduceDIte] <;>
    repeat' (first | refine bind_eq ?_ ?_ | intro _)
  all_goals rfl

end

end Cert.Proof.Body

end
-- ==== Proof.HashVal.lean ====
/-
  The same hashes word by word, and what they are: the reduction is the remainder modulo 999999,
  taken in [0, 999999), so every table row the tiles name is below 1000000.
-/
module

public import proofs.«01_k».proof.Proof.Hash
public import Idealize.ShloMosaic.Lib.WordCmp

@[expose] public section

noncomputable section

namespace Cert.Proof.Hash

open Cert.KernelIdeal Cert.KernelIdeal.Gen
open Idealize.ShloMosaic Idealize.SL.Sem

/-! ## One word -/

/-- One folding step of a word. -/
def foldWord (x : BitVec 32) : BitVec 32 := x.sshiftRight 20 * 48577#32 + (x &&& 1048575#32)
/-- One subtraction of 999999 where the word is at least that. -/
def capWord (x : BitVec 32) : BitVec 32 := if (999999 : ℤ) ≤ x.toInt then x - 999999#32 else x
/-- One addition of 999999 where the word is negative. -/
def liftWord (x : BitVec 32) : BitVec 32 := if x.toInt < 0 then x + 999999#32 else x
/-- The reduction of a word modulo 999999. -/
def modWord (x : BitVec 32) : BitVec 32 := liftWord (capWord (foldWord (foldWord (foldWord x))))

/-- A folding step as a number: the quotient by 2^20 times 48577, plus the remainder. -/
theorem foldWord_toInt (x : BitVec 32) : (foldWord x).toInt = x.toInt / 1048576 * 48577 + x.toInt % 1048576 := by
  have hs : (x.sshiftRight 20).toInt = x.toInt / 1048576 := by
    rw [BitVec.toInt_sshiftRight, Int.shiftRight_eq_div_pow]; rfl
  have ha : (x &&& 1048575#32).toInt = x.toInt % 1048576 := by
    have h1 : (x &&& 1048575#32).toNat = x.toNat % 1048576 := by
      rw [BitVec.toNat_and]
      exact Nat.and_two_pow_sub_one_eq_mod x.toNat 20
    have h2 : x.toInt % 1048576 = (x.toNat : ℤ) % 1048576 := by
      rw [BitVec.toInt_eq_toNat_cond]; split <;> omega
    rw [BitVec.toInt_eq_toNat_cond, h1, h2]; split <;> omega
  have hl : -2147483648 ≤ x.toInt := BitVec.le_toInt x
  have hu : x.toInt < 2147483648 := BitVec.toInt_lt
  have e1 : (48577#32).toInt = 48577 := by decide
  unfold foldWord
  rw [BitVec.toInt_add, BitVec.toInt_mul, hs, ha, e1]
  simp only [Int.bmod_def]
  have e2 : ((2 ^ 32 : ℕ) : ℤ) = 4294967296 := by decide
  rw [e2]
  split <;> split <;> omega

/-- The subtraction as a number, on a word that is small. -/
theorem capWord_toInt {x : BitVec 32} (h : x.toInt < 2000000) (h' : -2000000 < x.toInt) :
    (capWord x).toInt = if 999999 ≤ x.toInt then x.toInt - 999999 else x.toInt := by
  unfold capWord
  split
  · rw [BitVec.toInt_sub]
    have e1 : (999999#32).toInt = 999999 := by decide
    rw [e1]; simp only [Int.bmod_def]; split <;> omega
  · rfl

/-- The addition as a number, on a word that is small. -/
theorem liftWord_toInt {x : BitVec 32} (h : x.toInt < 2000000) (h' : -2000000 < x.toInt) :
    (liftWord x).toInt = if x.toInt < 0 then x.toInt + 999999 else x.toInt := by
  unfold liftWord
  split
  · rw [BitVec.toInt_add]
    have e1 : (999999#32).toInt = 999999 := by decide
    rw [e1]; simp only [Int.bmod_def]; split <;> omega
  · rfl

/-- The reduction is the remainder modulo 999999 that is not negative. -/
theorem modWord_toInt (x : BitVec 32) : (modWord x).toInt = x.toInt % 999999 := by
  have hl : -2147483648 ≤ x.toInt := BitVec.le_toInt x
  have hu : x.toInt < 2147483648 := BitVec.toInt_lt
  unfold modWord
  have h1 := foldWord_toInt x
  have h2 := foldWord_toInt (foldWord x)
  have h3 := foldWord_toInt (foldWord (foldWord x))
  generalize (foldWord (foldWord (foldWord x))) = z at *
  generalize (foldWord (foldWord x)) = y at *
  generalize foldWord x = w at *
  have b1 : -105000000 < w.toInt ∧ w.toInt < 105000000 := by omega
  have b2 : -6500000 < y.toInt ∧ y.toInt < 6500000 := by omega
  have b3 : -999999 < z.toInt ∧ z.toInt < 1999998 := by omega
  have c3 : (capWord z).toInt = _ := capWord_toInt (by omega) (by omega)
  have b4 : -999999 < (capWord z).toInt ∧ (capWord z).toInt < 999999 := by rw [c3]; split <;> omega
  have c4 : (liftWord (capWord z)).toInt = _ := liftWord_toInt (by omega) (by omega)
  rw [c4]
  have m1 : w.toInt % 999999 = x.toInt % 999999 := by omega
  have m2 : y.toInt % 999999 = w.toInt % 999999 := by omega
  have m3 : z.toInt % 999999 = y.toInt % 999999 := by omega
  rw [← m1, ← m2, ← m3]
  split at c3 <;> split <;> omega

/-- The reduction as a natural number. -/
theorem modWord_toNat (x : BitVec 32) : ((modWord x).toNat : ℤ) = x.toInt % 999999 := by
  have h := modWord_toInt x
  rw [BitVec.toInt_eq_toNat_cond] at h
  split at h <;> omega

/-- The reduction is below 999999. -/
theorem modWord_lt (x : BitVec 32) : (modWord x).toNat < 999999 := by
  have h := modWord_toNat x
  omega

/-! ## The rows of one position -/

/-- The bigram row of a position `p`, of the token there and the one before. -/
def biWord (p : ℕ) (t0 t1 : BitVec 32) : BitVec 32 :=
  if p % 4096 = 0 then 999999#32 else modWord (t0 * 36313#32 ^^^ t1 * 27191#32)

/-- The trigram row of a position `p`, of the token there and the two before. -/
def triWord (p : ℕ) (t0 t1 t2 : BitVec 32) : BitVec 32 :=
  if p % 4096 ≤ 1 then 999999#32 else modWord (t0 * 36313#32 ^^^ t1 * 27191#32 ^^^ t2 * 51497#32)

/-- A bigram row is one of the table's. -/
theorem biWord_lt (p : ℕ) (t0 t1 : BitVec 32) : (biWord p t0 t1).toNat < 1000000 := by
  unfold biWord
  split
  · decide
  · exact (modWord_lt _).trans (by decide)

/-- A trigram row is one of the table's. -/
theorem triWord_lt (p : ℕ) (t0 t1 t2 : BitVec 32) : (triWord p t0 t1 t2).toNat < 1000000 := by
  unfold triWord
  split
  · decide
  · exact (modWord_lt _).trans (by decide)

/-! ## The vectors, lane by lane -/

/-- A lane of the folding step. -/
theorem foldVec_apply (x : IVec S16 32) (l : S16.Idx) : foldVec x l = foldWord (x l) := rfl

/-- A selection by a decided bit. -/
theorem select_ofBool {α : Type} (b : Bool) (x y : α) : Scalar.select (BitVec.ofBool b) x y = if b = true then x else y := by
  cases b <;> rfl

/-- A lane of the subtraction. -/
theorem capVec_apply (x : IVec S16 32) (l : S16.Idx) : capVec x l = capWord (x l) := by
  show Scalar.select (IntOp.cmpi .sge (x l) 999999#32) (x l - 999999#32) (x l) = _
  rw [show IntOp.cmpi .sge (x l) 999999#32 = BitVec.ofBool (decide ((999999#32 : BitVec 32).toInt ≤ (x l).toInt)) from rfl, select_ofBool]
  simp only [decide_eq_true_eq]
  rfl

/-- A lane of the addition. -/
theorem liftVec_apply (x : IVec S16 32) (l : S16.Idx) : liftVec x l = liftWord (x l) := by
  show Scalar.select (IntOp.cmpi .slt (x l) 0#32) (x l + 999999#32) (x l) = _
  rw [show IntOp.cmpi .slt (x l) 0#32 = BitVec.ofBool (decide ((x l).toInt < (0#32 : BitVec 32).toInt)) from rfl, select_ofBool]
  simp only [decide_eq_true_eq]
  rfl

/-- A lane of the reduction. -/
theorem modVec_apply (x : IVec S16 32) (l : S16.Idx) : modVec x l = modWord (x l) := by
  unfold modVec modWord
  rw [liftVec_apply, capVec_apply, foldVec_apply, foldVec_apply, foldVec_apply]

/-- A cast of sixteen lanes to sixteen lanes changes nothing. -/
theorem shapeCast_self (t : IVec S16 32) : shapeCast S16 t shapeCasts_S16_S16 = t := by
  funext l
  unfold shapeCast
  congr 1
  exact Shape.reshapeEquiv_self _ l

/-- A lane of the tokens times a constant. -/
theorem scaleVec_apply (k : BitVec 32) (t : IVec S16 32) (l : S16.Idx) : scaleVec k t l = t l * k := by
  unfold scaleVec
  rw [shapeCast_self]
  rfl

/-- A lane of the columns is the position modulo 4096. -/
theorem colVec_apply (v : BitVec 32) (o : ℕ) (l : S16.Idx) (hv : v.toNat + o + 16 < 1048576) :
    (colVec v (BitVec.ofNat 32 o) l).toNat = (v.toNat + (o + (l 0).val)) % 4096 := by
  have hl : (l 0).val < 16 := (l 0).isLt
  show ((v + BitVec.ofNat 32 o + BitVec.ofNat 32 (0 * 16 + (l 0).val)) &&& 4095#32).toNat = _
  rw [BitVec.toNat_and]
  rw [show (4095#32).toNat = 2 ^ 12 - 1 from rfl, Nat.and_two_pow_sub_one_eq_mod]
  simp only [BitVec.toNat_add, BitVec.toNat_ofNat]
  omega

/-- A lane of the bigram rows. -/
theorem biVec_apply (v : BitVec 32) (o : ℕ) (t0 t1 : IVec S16 32) (l : S16.Idx) (hv : v.toNat + o + 16 < 1048576) :
    biVec v (BitVec.ofNat 32 o) t0 t1 l = biWord (v.toNat + (o + (l 0).val)) (t0 l) (t1 l) := by
  show Scalar.select (IntOp.cmpi .eq (colVec v (BitVec.ofNat 32 o) l) 0#32) 999999#32
    (modVec (xori (scaleVec 36313#32 t0) (scaleVec 27191#32 t1)) l) = _
  have hx : xori (scaleVec 36313#32 t0) (scaleVec 27191#32 t1) l = t0 l * 36313#32 ^^^ t1 l * 27191#32 := by
    show scaleVec 36313#32 t0 l ^^^ scaleVec 27191#32 t1 l = _
    rw [scaleVec_apply, scaleVec_apply]
  rw [WordCmp.cmpi_eq_eq_toNat, select_ofBool, modVec_apply, hx]
  simp only [decide_eq_true_eq, colVec_apply v o l hv]
  rfl

/-- A lane of the trigram rows. -/
theorem triVec_apply (v : BitVec 32) (o : ℕ) (t0 t1 t2 : IVec S16 32) (l : S16.Idx) (hv : v.toNat + o + 16 < 1048576) :
    triVec v (BitVec.ofNat 32 o) t0 t1 t2 l = triWord (v.toNat + (o + (l 0).val)) (t0 l) (t1 l) (t2 l) := by
  show Scalar.select (IntOp.cmpi .sle (colVec v (BitVec.ofNat 32 o) l) 1#32) 999999#32
    (modVec (xori (xori (scaleVec 36313#32 t0) (scaleVec 27191#32 t1)) (scaleVec 51497#32 t2)) l) = _
  have hc := colVec_apply v o l hv
  have hs : IntOp.cmpi .sle (colVec v (BitVec.ofNat 32 o) l) 1#32
      = BitVec.ofBool (decide ((colVec v (BitVec.ofNat 32 o) l).toInt ≤ (1#32 : BitVec 32).toInt)) := rfl
  have hi : (colVec v (BitVec.ofNat 32 o) l).toInt = (((v.toNat + (o + (l 0).val)) % 4096 : ℕ) : ℤ) := by
    rw [BitVec.toInt_eq_toNat_cond, hc]; split <;> omega
  have e1 : (1#32 : BitVec 32).toInt = 1 := by decide
  have hx : xori (xori (scaleVec 36313#32 t0) (scaleVec 27191#32 t1)) (scaleVec 51497#32 t2) l
      = t0 l * 36313#32 ^^^ t1 l * 27191#32 ^^^ t2 l * 51497#32 := by
    show scaleVec 36313#32 t0 l ^^^ scaleVec 27191#32 t1 l ^^^ scaleVec 51497#32 t2 l = _
    rw [scaleVec_apply, scaleVec_apply, scaleVec_apply]
  rw [hs, select_ofBool, modVec_apply, hx]
  simp only [decide_eq_true_eq, hi, e1]
  unfold triWord
  by_cases h : (v.toNat + (o + (l 0).val)) % 4096 ≤ 1
  · rw [if_pos h, if_pos (by omega)]
  · rw [if_neg h, if_neg (by omega)]

end Cert.Proof.Hash

end
-- ==== Proof.Ctx.lean ====
/-
  What the launch theorem sees of the program — the four calls' handshake configuration — and the
  resource algebra the proof is carried out in.
-/
module

public import proofs.«01_k».proof.Defs
public import proofs.«01_k».proof.Proof.Body
public import proofs.«01_k».proof.Proof.HashVal
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.WritesUnit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the kernels and of the pipelines. -/
abbrev ΛP : Labels := Pipeline.Sig Λ₀ (Fin 4) fun p => (pcfgs (F := F) p).Adm
/-- The four SparseCore calls. -/
abbrev K : SparseCore.Cfg τ sig (ΛP (F := F)) 4 := sc (F := F)
/-- The bodies behind the labels. -/
abbrev D [FloatOps F] : Defs nD τ sig (Elt F) (ΛP (F := F)) := Pipeline.defs pcfgs defs₀
/-- No loop needs a variant. -/
abbrev 𝒱₀ : Variants := Variants.none
/-- The same, over the pipelines' labels. -/
abbrev 𝒱 : Variants := 𝒱₀.lift
/-- The variant every tile starts at. -/
abbrev v₀ : 𝒱.V := Sum.inl none

/-- The handshakes' semaphores are distinct and outlive the tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The TensorCore pipelines' rounds. -/
abbrev UP : Type := URounds (GSem nD τ sig) Unit
/-- Both, and the counters of the tiles' transfers. -/
abbrev UU : Type := UH × (UP × Counters)

/-- The resources of the proof. -/
abbrev MM (F : FTy → Type) : Type := MT nD τ sig (HIx 4) (Elt F) ℕ UU ℕ

/-- Where the handshakes' rounds lie. -/
abbrev EH : Emb UH (MM F) := embL

/-- Where the pipelines' rounds lie. -/
def EP : Emb UP (MM F) :=
  ((Emb.inl : Emb UP (UP × Counters)).trans (Emb.inr : Emb (UP × Counters) UU)).trans
    (uEmb (nD := nD) (τ := τ) (sig := sig) (Ix := HIx 4) (Val := Elt F) (Name := ℕ) (U := UU) (Lvl := ℕ)).toEmb

/-- The pipelines' rounds lie in the user's part of the resources. -/
instance EP_landsIn : (EP (F := F)).LandsIn (upEmb : UEmb _ (MM F)) := by
  unfold EP; infer_instance

end Cert.Proof

end
-- ==== Proof.Tile.lean ====
/-
  The task of one tile, at a symbolic SparseCore and tile: the tokens come in, the two lists of table
  rows are computed, the rows are gathered and copied out — with what each step leaves.
-/
module

public import proofs.«01_k».proof.Proof.Ctx

@[expose] public section

set_option maxRecDepth 65536

noncomputable section

namespace Cert.Proof.Tile

open Cert.KernelIdeal Cert.KernelIdeal.Gen Cert.Proof Cert.Proof.Body Cert.Proof.Hash
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (c : Fin τ.nSC) (s : Fin τ.nSub)
variable (arg2 : Memref sig .scVector .hbm S16384 .i32) (arg3 : Memref sig .scVector .hbm S1000000x128 .f32)
  (arg4 : Memref sig .scVector .hbm S2x4096x128 .f32)
  (arg5 : Memref sig .scVector .vmem S136 .i32) (arg6 arg7 : Memref sig .scVector .vmem S128 .i32)
  (arg8 : Memref sig .scVector .vmem S128x128 .f32) (harg8 : arg8.IsWhole)
  (arg9 : Memref sig .scVector .vmem S128x128 .f32) (harg9 : arg9.IsWhole)
  (arg10 arg11 arg12 arg13 r0 r1 : DmaSems sig S_)

/-! ## The values -/

/-- The table row of the bigram at position `p`, the tokens of all positions being `T`. -/
def biRow (T : ℕ → BitVec 32) (p : ℕ) : BitVec 32 := biWord p (T p) (T (p - 1))

/-- The table row of the trigram at position `p`. -/
def triRow (T : ℕ → BitVec 32) (p : ℕ) : BitVec 32 := triWord p (T p) (T (p - 1)) (T (p - 2))

/-- A bigram row is one of the table's. -/
theorem biRow_lt (T : ℕ → BitVec 32) (p : ℕ) : (biRow T p).toNat < 1000000 := biWord_lt _ _ _
/-- A trigram row is one of the table's. -/
theorem triRow_lt (T : ℕ → BitVec 32) (p : ℕ) : (triRow T p).toNat < 1000000 := triWord_lt _ _ _ _

/-- The scratch of a tile whose first position is `b` holds the tokens from position `b - 8` on, where there are such. -/
def Toks (T : ℕ → BitVec 32) (b : ℕ) (rd : S136.Idx → BitVec 32) : Prop :=
  ∀ y : S136.Idx, (8 ≤ (y 0).val ∨ b ≠ 0) → rd y = T (b + (y 0).val - 8)

/-- The first `o` words of a tile's list are the rows `R` names from position `b` on. -/
def Listed (R : ℕ → BitVec 32) (b o : ℕ) (rd : S128.Idx → BitVec 32) : Prop :=
  ∀ y : S128.Idx, (y 0).val < o → rd y = R (b + (y 0).val)

/-- Sixteen words stored at `o` extend a list by sixteen entries. -/
theorem listed_step {R : ℕ → BitVec 32} {b o : ℕ} (ho : o ≤ 112) (m : Memref sig .scVector .vmem S128 .i32) (f : m.view.ty.Contents (Elt F))
    (w : Vec F S16 .i32) (hw : ∀ l : S16.Idx, w l = R (b + (o + (l 0).val))) (hf : Listed R b o (m.view.read (Elt F) f)) :
    Listed R b (o + 16) (m.view.read (Elt F) (m.view.writes (Elt F) f [⟨Rect.unit (s := S128) ![o] S16.size (inb128 ho), w⟩])) := by
  intro y hy
  by_cases h : (y 0).val < o
  · rw [View.read_writes_cons_unit_of_not_mem m.view f (inb128 ho) w [] y rfl 0 (Or.inl h)]
    exact hf y h
  · have hx : (y 0).val - o < 16 := by omega
    rw [View.read_writes_cons_unit_of_mem m.view f (inb128 ho) w [] y (fun | ⟨0, _⟩ => ⟨(y 0).val - o, hx⟩) rfl
      (fun | ⟨0, _⟩ => by show (y 0).val = o + ((y 0).val - o); omega)]
    refine (hw _).trans ?_
    show R (b + (o + ((y 0).val - o))) = _
    congr 2; omega

/-- What a load of sixteen words at `k` of a tile's tokens reads. -/
theorem toks_load {T : ℕ → BitVec 32} {b k : ℕ} (hk : k ≤ 120) (m : Memref sig .scVector .vmem S136 .i32) (f : m.view.ty.Contents (Elt F))
    (h : ∀ a, (![k] : Fin 1 → ℕ) a + S16.size a ≤ S136.size a)
    (hf : Toks T b (m.view.read (Elt F) f)) (l : S16.Idx) (hl : 8 ≤ k + (l 0).val ∨ b ≠ 0) :
    View.readAt (Elt F) m.view (Rect.unit (s := S136) ![k] S16.size h).toLoadRect f l = T (b + (k + (l 0).val) - 8) := by
  have e : ((Rect.unit (s := S136) ![k] S16.size h).emb l 0).val = k + (l 0).val := by
    show k + 1 * (l 0).val = _; omega
  have := hf ((Rect.unit (s := S136) ![k] S16.size h).emb l) (by rw [e]; exact hl)
  rw [e] at this
  exact this

/-- Sixteen positions: from the tokens and two lists of `o` entries, two lists of `o + 16` entries. -/
theorem chunk_spec {Q : PUnit → sProp (MM F)} (κ : PUnit → Prog (TpuEff nD τ sig (Elt F) Λ₀ (.scVector c s)) PUnit)
    (T : ℕ → BitVec 32) (v : BitVec 32) (o : ℕ) (ho : o ≤ 112) (hv : v.toNat + 128 < 1048576) f5 f6 f7
    (h5 : Toks T v.toNat (arg5.view.read (Elt F) f5)) (h6 : Listed (biRow T) v.toNat o (arg6.view.read (Elt F) f6))
    (h7 : Listed (triRow T) v.toNat o (arg7.view.read (Elt F) f7)) :
    iprop((arg5.view.loc (V d c s) ↦[arg5.view.set]{fullShare} f5)
      ∗ (arg6.view.loc (V d c s) ↦[arg6.view.set]{fullShare} f6)
      ∗ (arg7.view.loc (V d c s) ↦[arg7.view.set]{fullShare} f7))
    ⊢ iprop((∀ f6' f7', (⌜Listed (biRow T) v.toNat (o + 16) (arg6.view.read (Elt F) f6')
          ∧ Listed (triRow T) v.toNat (o + 16) (arg7.view.read (Elt F) f7')⌝
        ∗ (arg5.view.loc (V d c s) ↦[arg5.view.set]{fullShare} f5)
        ∗ (arg6.view.loc (V d c s) ↦[arg6.view.set]{fullShare} f6')
        ∗ (arg7.view.loc (V d c s) ↦[arg7.view.set]{fullShare} f7'))
          -∗ wp frame (wpE (defs₀ (F := F)) 𝒱₀ (V d c s) none) Set.univ (κ ⟨⟩) Q)
      -∗ wp frame (wpE (defs₀ (F := F)) 𝒱₀ (V d c s) none) Set.univ (chunk c s arg5 arg6 arg7 v o ho >>= κ) Q) := by
  iintro ⟨H5, H6, H7⟩ Hκ
  unfold chunk
  sl_exec
  ispecialize Hκ $$ %_ %_
  iapply Hκ
  isplitr
  swap
  · isplitl [H5]; · iexact H5
    isplitl [H6]; · iexact H6
    iexact H7
  ipureintro
  constructor
  · refine listed_step ho arg6 f6 _ (fun l => ?_) h6
    rw [shapeCast_self, biVec_apply _ _ _ _ _ (by omega)]
    have hl : (l 0).val < 16 := (l 0).isLt
    rw [toks_load (by omega) arg5 f5 _ h5 l (by omega)]
    unfold biRow
    by_cases hz : v.toNat = 0 ∧ o + (l 0).val = 0
    · unfold biWord
      rw [if_pos (by omega), if_pos (by omega)]
    · rw [toks_load (by omega) arg5 f5 _ h5 l (by omega)]
      congr 2 <;> omega
  · refine listed_step ho arg7 f7 _ (fun l => ?_) h7
    rw [shapeCast_self, triVec_apply _ _ _ _ _ _ (by omega)]
    have hl : (l 0).val < 16 := (l 0).isLt
    rw [toks_load (by omega) arg5 f5 _ h5 l (by omega)]
    unfold triRow
    by_cases hz : v.toNat = 0 ∧ o + (l 0).val ≤ 1
    · unfold triWord
      rw [if_pos (by omega), if_pos (by omega)]
    · rw [toks_load (by omega) arg5 f5 _ h5 l (by omega), toks_load (by omega) arg5 f5 _ h5 l (by omega)]
      congr 2 <;> omega

/-- Eight times sixteen positions: both lists complete. -/
theorem chunks_spec {Q : PUnit → sProp (MM F)} (κ : PUnit → Prog (TpuEff nD τ sig (Elt F) Λ₀ (.scVector c s)) PUnit)
    (T : ℕ → BitVec 32) (v : BitVec 32) (hv : v.toNat + 128 < 1048576) f5 f6 f7
    (h5 : Toks T v.toNat (arg5.view.read (Elt F) f5)) :
    iprop((arg5.view.loc (V d c s) ↦[arg5.view.set]{fullShare} f5)
      ∗ (arg6.view.loc (V d c s) ↦[arg6.view.set]{fullShare} f6)
      ∗ (arg7.view.loc (V d c s) ↦[arg7.view.set]{fullShare} f7))
    ⊢ iprop((∀ f6' f7', (⌜Listed (biRow T) v.toNat 128 (arg6.view.read (Elt F) f6')
          ∧ Listed (triRow T) v.toNat 128 (arg7.view.read (Elt F) f7')⌝
        ∗ (arg5.view.loc (V d c s) ↦[arg5.view.set]{fullShare} f5)
        ∗ (arg6.view.loc (V d c s) ↦[arg6.view.set]{fullShare} f6')
        ∗ (arg7.view.loc (V d c s) ↦[arg7.view.set]{fullShare} f7'))
          -∗ wp frame (wpE (defs₀ (F := F)) 𝒱₀ (V d c s) none) Set.univ (κ ⟨⟩) Q)
      -∗ wp frame (wpE (defs₀ (F := F)) 𝒱₀ (V d c s) none) Set.univ (chunks c s arg5 arg6 arg7 v >>= κ) Q) := by
  unfold chunks
  simp only [bind_assoc]
  iintro ⟨H5, H6, H7⟩ Hκ
  iapply (chunk_spec d c s arg5 arg6 arg7 _ T v 0 _ hv f5 f6 f7 h5 (fun y h => absurd h (by omega)) (fun y h => absurd h (by omega))) $$ [H5 H6 H7]
  · isplitl [H5]; · iexact H5
    isplitl [H6]; · iexact H6
    iexact H7
  iintro %f6 %f7 ⟨%h, H5, H6, H7⟩
  iapply (chunk_spec d c s arg5 arg6 arg7 _ T v 16 _ hv f5 f6 f7 h5 h.1 h.2) $$ [H5 H6 H7]
  · isplitl [H5]; · iexact H5
    isplitl [H6]; · iexact H6
    iexact H7
  iintro %f6 %f7 ⟨%h, H5, H6, H7⟩
  iapply (chunk_spec d c s arg5 arg6 arg7 _ T v 32 _ hv f5 f6 f7 h5 h.1 h.2) $$ [H5 H6 H7]
  · isplitl [H5]; · iexact H5
    isplitl [H6]; · iexact H6
    iexact H7
  iintro %f6 %f7 ⟨%h, H5, H6, H7⟩
  iapply (chunk_spec d c s arg5 arg6 arg7 _ T v 48 _ hv f5 f6 f7 h5 h.1 h.2) $$ [H5 H6 H7]
  · isplitl [H5]; · iexact H5
    isplitl [H6]; · iexact H6
    iexact H7
  iintro %f6 %f7 ⟨%h, H5, H6, H7⟩
  iapply (chunk_spec d c s arg5 arg6 arg7 _ T v 64 _ hv f5 f6 f7 h5 h.1 h.2) $$ [H5 H6 H7]
  · isplitl [H5]; · iexact H5
    isplitl [H6]; · iexact H6
    iexact H7
  iintro %f6 %f7 ⟨%h, H5, H6, H7⟩
  iapply (chunk_spec d c s arg5 arg6 arg7 _ T v 80 _ hv f5 f6 f7 h5 h.1 h.2) $$ [H5 H6 H7]
  · isplitl [H5]; · iexact H5
    isplitl [H6]; · iexact H6
    iexact H7
  iintro %f6 %f7 ⟨%h, H5, H6, H7⟩
  iapply (chunk_spec d c s arg5 arg6 arg7 _ T v 96 _ hv f5 f6 f7 h5 h.1 h.2) $$ [H5 H6 H7]
  · isplitl [H5]; · iexact H5
    isplitl [H6]; · iexact H6
    iexact H7
  iintro %f6 %f7 ⟨%h, H5, H6, H7⟩
  iapply (chunk_spec d c s arg5 arg6 arg7 _ T v 112 _ hv f5 f6 f7 h5 h.1 h.2) $$ [H5 H6 H7]
  · isplitl [H5]; · iexact H5
    isplitl [H6]; · iexact H6
    iexact H7
  iintro %f6 %f7 ⟨%h, H5, H6, H7⟩
  ispecialize Hκ $$ %f6 %f7
  iapply Hκ
  isplitr
  · ipureintro; exact h
  isplitl [H5]; · iexact H5
  isplitl [H6]; · iexact H6
  iexact H7

/-- The tokens at the tile's own positions, once fetched. -/
theorem toks_fetched {T : ℕ → BitVec 32} {b : ℕ} {off1 : Fin 1 → ℕ} (h1 : ∀ a, off1 a + S128.size a ≤ S16384.size a) (e1 : off1 = ![b])
    (m : Memref sig .scVector .vmem S136 .i32) (f : m.view.ty.Contents (Elt F)) (g : S16384.Idx → BitVec 32)
    (hT : ∀ y : S16384.Idx, g y = T (y 0).val) (w : Vec F S128 .i32) (hw : ∀ x, w x = g ((Rect.unit (s := S16384) off1 S128.size h1).emb x)) :
    ∀ y : S136.Idx, 8 ≤ (y 0).val →
      m.view.read (Elt F) (m.view.writes (Elt F) f [⟨Rect.unit (s := S136) ![8] S128.size inb_S136_S128_8, w⟩]) y = T (b + (y 0).val - 8) := by
  subst e1
  intro y hy
  have hlt : (y 0).val < 136 := (y 0).isLt
  have hx : (y 0).val - 8 < 128 := by omega
  rw [View.read_writes_cons_unit_of_mem m.view f inb_S136_S128_8 w [] y (fun | ⟨0, _⟩ => ⟨(y 0).val - 8, hx⟩) rfl
    (fun | ⟨0, _⟩ => by show (y 0).val = 8 + ((y 0).val - 8); omega), hw, hT]
  show T (b + 1 * ((y 0).val - 8)) = _
  congr 1; omega

/-- The fetch of the tile's own tokens. -/
theorem fetch_spec {Q : PUnit → sProp (MM F)} (κ : PUnit → Prog (TpuEff nD τ sig (Elt F) Λ₀ (.scVector c s)) PUnit)
    (T : ℕ → BitVec 32) (b : ℕ) (off1 : Fin 1 → ℕ) (h1 : ∀ a, off1 a + S128.size a ≤ S16384.size a) (e1 : off1 = ![b]) (q : PosShare TreeShare)
    (O : CellTallies nD τ sig (HIx 4)) (W : Waits sig (HIx 4)) f2 f5
    (hT : ∀ y : S16384.Idx, arg2.view.read (Elt F) f2 y = T (y 0).val) :
    iprop(Transfers.MayWaits (V d c s) (default : HIx 4) O ∗ (arg2.view.loc (V d c s) ↦[arg2.view.set]{q} f2)
      ∗ (arg5.view.loc (V d c s) ↦[arg5.view.set]{fullShare} f5)
      ∗ semVal (V d c s, SemLoc.dma r0.sem) 0 ∗ owes (V d c s) O W)
    ⊢ iprop((∀ f5' W', (⌜(∀ y : S136.Idx, 8 ≤ (y 0).val → arg5.view.read (Elt F) f5' y = T (b + (y 0).val - 8)) ∧ ∀ p ∈ W', p ∈ W ∨ p.2 = none⌝
          ∗ (arg2.view.loc (V d c s) ↦[arg2.view.set]{q} f2)
          ∗ (arg5.view.loc (V d c s) ↦[arg5.view.set]{fullShare} f5')
          ∗ semVal (V d c s, SemLoc.dma r0.sem) 0 ∗ owes (V d c s) O W')
        -∗ wp frame (wpE (defs₀ (F := F)) 𝒱₀ (V d c s) none) Set.univ (κ ⟨⟩) Q)
      -∗ wp frame (wpE (defs₀ (F := F)) 𝒱₀ (V d c s) none) Set.univ (fetch c s arg2 arg5 r0 off1 h1 >>= κ) Q) := by
  iintro ⟨#Hmw, H2, H5, Hs, HO⟩ Hκ
  unfold fetch
  sl_exec
  ispecialize Hκ $$ %_ %_
  iapply Hκ
  isplitr
  swap
  · isplitl [H2]; · iexact H2
    isplitl [H5]; · iexact H5
    isplitl [Hs]; · iexact Hs
    iexact HO
  ipureintro
  refine ⟨toks_fetched h1 e1 arg5 f5 _ hT _ fun x => rfl, fun p hp => ?_⟩
  rcases Finset.mem_insert.mp hp with hp | hp
  · exact .inr (hp ▸ rfl)
  · exact .inl hp

/-- The tokens before the tile's, once fetched over a scratch that holds the tile's own. -/
theorem toks_all {T : ℕ → BitVec 32} {b : ℕ} {off2 : Fin 1 → ℕ} (h2 : ∀ a, off2 a + S8.size a ≤ S16384.size a) (hb : 8 ≤ b) (e2 : off2 = ![b - 8])
    (m : Memref sig .scVector .vmem S136 .i32) (f : m.view.ty.Contents (Elt F)) (g : S16384.Idx → BitVec 32)
    (hT : ∀ y : S16384.Idx, g y = T (y 0).val) (w : Vec F S8 .i32) (hw : ∀ x, w x = g ((Rect.unit (s := S16384) off2 S8.size h2).emb x))
    (hf : ∀ y : S136.Idx, 8 ≤ (y 0).val → m.view.read (Elt F) f y = T (b + (y 0).val - 8)) :
    Toks T b (m.view.read (Elt F) (m.view.writes (Elt F) f [⟨Rect.unit (s := S136) ![0] S8.size inb_S136_S8_0, w⟩])) := by
  subst e2
  intro y _
  by_cases h : 8 ≤ (y 0).val
  · rw [View.read_writes_cons_unit_of_not_mem m.view f inb_S136_S8_0 w [] y rfl 0 (Or.inr h)]
    exact hf y h
  · have hx : (y 0).val < 8 := by omega
    rw [View.read_writes_cons_unit_of_mem m.view f inb_S136_S8_0 w [] y (fun | ⟨0, _⟩ => ⟨(y 0).val, hx⟩) rfl
      (fun | ⟨0, _⟩ => by show (y 0).val = 0 + (y 0).val; omega), hw, hT]
    show T (b - 8 + 1 * (y 0).val) = _
    congr 1; omega

/-- The fetch of the eight tokens before the tile's, where there are any. -/
theorem fetchPrev_spec {Q : PUnit → sProp (MM F)} (κ : PUnit → Prog (TpuEff nD τ sig (Elt F) Λ₀ (.scVector c s)) PUnit)
    (T : ℕ → BitVec 32) (b : ℕ) (cond : BitVec 1) (off2 : Fin 1 → ℕ) (h2 : cond = 1#1 → ∀ a, off2 a + S8.size a ≤ S16384.size a)
    (ec : cond = 1#1 ↔ b ≠ 0) (e2 : cond = 1#1 → 8 ≤ b ∧ off2 = ![b - 8]) (q : PosShare TreeShare)
    (O : CellTallies nD τ sig (HIx 4)) (W : Waits sig (HIx 4)) f2 f5
    (hT : ∀ y : S16384.Idx, arg2.view.read (Elt F) f2 y = T (y 0).val)
    (hf : ∀ y : S136.Idx, 8 ≤ (y 0).val → arg5.view.read (Elt F) f5 y = T (b + (y 0).val - 8)) :
    iprop(Transfers.MayWaits (V d c s) (default : HIx 4) O ∗ (arg2.view.loc (V d c s) ↦[arg2.view.set]{q} f2)
      ∗ (arg5.view.loc (V d c s) ↦[arg5.view.set]{fullShare} f5)
      ∗ semVal (V d c s, SemLoc.dma r1.sem) 0 ∗ owes (V d c s) O W)
    ⊢ iprop((∀ f5' W', (⌜Toks T b (arg5.view.read (Elt F) f5') ∧ ∀ p ∈ W', p ∈ W ∨ p.2 = none⌝
          ∗ (arg2.view.loc (V d c s) ↦[arg2.view.set]{q} f2)
          ∗ (arg5.view.loc (V d c s) ↦[arg5.view.set]{fullShare} f5')
          ∗ semVal (V d c s, SemLoc.dma r1.sem) 0 ∗ owes (V d c s) O W')
        -∗ wp frame (wpE (defs₀ (F := F)) 𝒱₀ (V d c s) none) Set.univ (κ ⟨⟩) Q)
      -∗ wp frame (wpE (defs₀ (F := F)) 𝒱₀ (V d c s) none) Set.univ (fetchPrev c s arg2 arg5 r1 cond off2 h2 >>= κ) Q) := by
  iintro ⟨#Hmw, H2, H5, Hs, HO⟩ Hκ
  unfold fetchPrev
  by_cases hc : cond = 1#1
  · sl_exec
    ispecialize Hκ $$ %_ %_
    iapply Hκ
    isplitr
    swap
    · isplitl [H2]; · iexact H2
      isplitl [H5]; · iexact H5
      isplitl [Hs]; · iexact Hs
      iexact HO
    ipureintro
    refine ⟨toks_all (h2 hc) (e2 hc).1 (e2 hc).2 arg5 f5 _ hT _ (fun x => rfl) hf, fun p hp => ?_⟩
    rcases Finset.mem_insert.mp hp with hp | hp
    · exact .inr (hp ▸ rfl)
    · exact .inl hp
  · sl_exec
    ispecialize Hκ $$ %f5 %W
    iapply Hκ
    isplitr
    swap
    · isplitl [H2]; · iexact H2
      isplitl [H5]; · iexact H5
      isplitl [Hs]; · iexact Hs
      iexact HO
    ipureintro
    have hb : b = 0 := Decidable.byContradiction fun h => hc (ec.mpr h)
    exact ⟨fun y hy => hf y (hy.resolve_right (fun h => h hb)), fun p hp => .inl hp⟩

/-- What a gather of the rows a list names lands. -/
theorem gather_val (R : ℕ → BitVec 32) (b : ℕ) (f3 : arg3.view.ty.Contents (Elt F)) (m : Memref sig .scVector .vmem S128 .i32) (f : m.view.ty.Contents (Elt F))
    (hl : Listed R b 128 (m.view.read (Elt F) f))
    (hin : ∀ x, (m.view.read (Elt F) f x).toNat < S1000000x128.size gathers_S1000000x128_S128x128.axis)
    (x : S128x128.Idx) (y : S1000000x128.Idx) (hy0 : (y 0).val = (R (b + (x 0).val)).toNat) (hy1 : (y 1).val = (x 1).val) :
    SparseCore.gatherPayload (F := F) (e := .f32) gathers_S1000000x128_S128x128 ((tableOf arg3).view.read (Elt F) f3)
      (SparseCore.rows (m.view.read (Elt F) f) (rfl : S128.numel = S128x128.size gathers_S1000000x128_S128x128.axis') hin) x
      = arg3.view.read (Elt F) f3 y := by
  have hx0 : (x 0).val < 128 := (x 0).isLt
  show arg3.view.read (Elt F) f3 ((Rect.unit (s := S1000000x128) ![0, 0] S1000000x128.size inb_S1000000x128_S1000000x128_0_0).emb _) = _
  congr 1
  funext a
  apply Fin.ext
  match a with
  | ⟨0, _⟩ =>
    refine Eq.trans ?_ hy0.symm
    show 0 + 1 * (Shape.Gathers.idx _ _ _ (gathers_S1000000x128_S128x128).axis).val = _
    rw [Shape.Gathers.idx_axis]
    rw [Nat.zero_add, Nat.one_mul]
    show (m.view.read (Elt F) f (S128.rowMajor.symm _)).toNat = _
    rw [hl _ (Fin.isLt _)]
    congr 3
    exact (Shape.rowMajor_val_one _).symm.trans (by rw [Equiv.apply_symm_apply]; rfl)
  | ⟨1, _⟩ =>
    refine Eq.trans ?_ hy1.symm
    show 0 + 1 * (Shape.Gathers.idx _ _ _ _).val = _
    rw [Shape.Gathers.idx_of_ne _ _ _ _ (show (1 : ℕ) ≠ 0 by decide)]
    rw [Nat.zero_add, Nat.one_mul]
    rfl

/-- What a view whose last write was of all of it reads. -/
theorem read_whole_write {κ : Kind} {sp : Space} {sh : Shape} {e : EltTy} (v : View sig κ sp sh e) (f : v.ty.Contents (Elt F)) (w : sh.Idx → Elt F e) (x : sh.Idx) :
    v.read (Elt F) (v.writes (Elt F) f [⟨Rect.whole sh, w⟩]) x = w x :=
  View.read_writes_cons_hit v f (Rect.whole sh) w [] x x (Rect.emb_whole_apply sh x)

/-- A tile's rows of one half of the call's result are the table's, at the rows that `R` names from position `b` on. -/
def Gathered (R : ℕ → BitVec 32) (b : ℕ) (f3 : arg3.view.ty.Contents (Elt F)) (rd : S128x128.Idx → Elt F .f32) : Prop :=
  ∀ (x : S128x128.Idx) (y : S1000000x128.Idx), (y 0).val = (R (b + (x 0).val)).toNat → (y 1).val = (x 1).val →
    rd x = arg3.view.read (Elt F) f3 y

set_option maxHeartbeats 1000000 in
/-- The two gathers and the two copies out. -/
theorem gathers_spec {Q : PUnit → sProp (MM F)}
    (R R' : ℕ → BitVec 32) (b : ℕ)
    (off3 : Fin 3 → ℕ) (h3 : ∀ a, off3 a + S1x128x128.size a ≤ S2x4096x128.size a)
    (off4 : Fin 3 → ℕ) (h4 : ∀ a, off4 a + S1x128x128.size a ≤ S2x4096x128.size a)
    (q : PosShare TreeShare)
    (O : CellTallies nD τ sig (HIx 4)) (W : Waits sig (HIx 4)) f3 f4 f4' f6 f7 f8 f9
    (hR : ∀ p, (R p).toNat < 1000000) (hR' : ∀ p, (R' p).toNat < 1000000)
    (h6 : Listed R b 128 (arg6.view.read (Elt F) f6)) (h7 : Listed R' b 128 (arg7.view.read (Elt F) f7)) :
    iprop(Transfers.MayWaits (V d c s) (default : HIx 4) O ∗ (arg3.view.loc (V d c s) ↦[arg3.view.set]{q} f3)
      ∗ ((rowsOf arg4 off3 h3).view.loc (V d c s) ↦[(rowsOf arg4 off3 h3).view.set]{fullShare} f4)
      ∗ ((rowsOf arg4 off4 h4).view.loc (V d c s) ↦[(rowsOf arg4 off4 h4).view.set]{fullShare} f4')
      ∗ (arg6.view.loc (V d c s) ↦[arg6.view.set]{fullShare} f6)
      ∗ (arg7.view.loc (V d c s) ↦[arg7.view.set]{fullShare} f7)
      ∗ (arg8.view.loc (V d c s) ↦[arg8.view.set]{fullShare} f8)
      ∗ (arg9.view.loc (V d c s) ↦[arg9.view.set]{fullShare} f9)
      ∗ semVal (V d c s, SemLoc.dma arg10.sem) 0
      ∗ semVal (V d c s, SemLoc.dma arg11.sem) 0
      ∗ semVal (V d c s, SemLoc.dma arg12.sem) 0
      ∗ semVal (V d c s, SemLoc.dma arg13.sem) 0
      ∗ owes (V d c s) O W)
    ⊢ iprop((∀ g g' f6' f7' f8' f9' W', (⌜Gathered arg3 R b f3 ((rowsOf arg4 off3 h3).view.read (Elt F) g)
              ∧ Gathered arg3 R' b f3 ((rowsOf arg4 off4 h4).view.read (Elt F) g') ∧ ∀ p ∈ W', p ∈ W ∨ p.2 = none⌝
          ∗ (arg3.view.loc (V d c s) ↦[arg3.view.set]{q} f3)
          ∗ ((rowsOf arg4 off3 h3).view.loc (V d c s) ↦[(rowsOf arg4 off3 h3).view.set]{fullShare} g)
          ∗ ((rowsOf arg4 off4 h4).view.loc (V d c s) ↦[(rowsOf arg4 off4 h4).view.set]{fullShare} g')
          ∗ (arg6.view.loc (V d c s) ↦[arg6.view.set]{fullShare} f6')
          ∗ (arg7.view.loc (V d c s) ↦[arg7.view.set]{fullShare} f7')
          ∗ (arg8.view.loc (V d c s) ↦[arg8.view.set]{fullShare} f8')
          ∗ (arg9.view.loc (V d c s) ↦[arg9.view.set]{fullShare} f9')
          ∗ semVal (V d c s, SemLoc.dma arg10.sem) 0
          ∗ semVal (V d c s, SemLoc.dma arg11.sem) 0
          ∗ semVal (V d c s, SemLoc.dma arg12.sem) 0
          ∗ semVal (V d c s, SemLoc.dma arg13.sem) 0
          ∗ owes (V d c s) O W') -∗ Q ⟨⟩)
      -∗ wp frame (wpE (defs₀ (F := F)) 𝒱₀ (V d c s) none) Set.univ
          (gathers c s arg3 arg4 arg6 arg7 arg8 harg8 arg9 harg9 arg10 arg11 arg12 arg13 off3 h3 off4 h4) Q) := by
  have hin6 : ∀ x, (arg6.view.read (Elt F) f6 x).toNat < S1000000x128.size gathers_S1000000x128_S128x128.axis := fun x => by
    rw [h6 x (x 0).isLt]; exact hR _
  have hin7 : ∀ x, (arg7.view.read (Elt F) f7 x).toNat < S1000000x128.size gathers_S1000000x128_S128x128.axis := fun x => by
    rw [h7 x (x 0).isLt]; exact hR' _
  have hsub : (tableOf arg3).view.set ⊆ arg3.view.set := View.set_slice_subset _ _
  iintro ⟨#Hmw, H3, H4, H4', H6, H7, H8, H9, Hs10, Hs11, Hs12, Hs13, HO⟩ Hκ
  ihave H3 := (pointsTo_share (PosShare.mem_left_op_right q)).1 $$ H3
  icases H3 with ⟨H3, H3'⟩
  unfold gathers
  have hc8 : arg8.view.dmaCredit = 524288 := rfl
  have hc9 : arg9.view.dmaCredit = 524288 := rfl
  sl_exec
  iapply (Transfers.wp_waitLocalO countersEmb 𝒱₀ (V d c s) none (default : HIx 4) hc8) $$ [Hs10 HO]
  · isplitl [Hs10]; · iexact Hs10
    isplitl [HO]; · iexact HO
    iapply (Transfers.MayWaits.elim (SemLoc.dma arg10.sem)) $$ Hmw
  iintro ⟨⟨⟨H8, H6⟩, H3s⟩, Hs10, HO⟩
  sl_exec
  iapply (Transfers.wp_waitLocalO countersEmb 𝒱₀ (V d c s) none (default : HIx 4) hc9) $$ [Hs11 HO]
  · isplitl [Hs11]; · iexact Hs11
    isplitl [HO]; · iexact HO
    iapply (Transfers.MayWaits.elim (SemLoc.dma arg11.sem)) $$ Hmw
  iintro ⟨⟨⟨H9, H7⟩, H3s'⟩, Hs11, HO⟩
  sl_exec
  sl_step
  ihave H3 := (pointsTo_split_subset (q := q.left) (f := f3) hsub).2 $$ [H3s H3]; · isplitl [H3s] <;> iassumption
  ihave H3' := (pointsTo_split_subset (q := q.right) (f := f3) hsub).2 $$ [H3s' H3']; · isplitl [H3s'] <;> iassumption
  ihave H3 := (pointsTo_share (PosShare.mem_left_op_right q)).2 $$ [H3 H3']; · isplitl [H3] <;> iassumption
  ispecialize Hκ $$ %_ %_ %_ %_ %_ %_ %_
  iapply Hκ
  isplitr
  swap
  · isplitl [H3]; · iexact H3
    isplitl [H4]; · iexact H4
    isplitl [H4']; · iexact H4'
    isplitl [H6]; · iexact H6
    isplitl [H7]; · iexact H7
    isplitl [H8]; · iexact H8
    isplitl [H9]; · iexact H9
    isplitl [Hs10]; · iexact Hs10
    isplitl [Hs11]; · iexact Hs11
    isplitl [Hs12]; · iexact Hs12
    isplitl [Hs13]; · iexact Hs13
    iexact HO
  ipureintro
  refine ⟨fun x y hy0 hy1 => ?_, fun x y hy0 hy1 => ?_, fun p hp => ?_⟩
  · exact (read_whole_write _ _ _ x).trans ((read_whole_write arg8.view f8 _ x).trans (gather_val arg3 R b f3 arg6 f6 h6 hin6 x y hy0 hy1))
  · exact (read_whole_write _ _ _ x).trans ((read_whole_write arg9.view f9 _ x).trans (gather_val arg3 R' b f3 arg7 f7 h7 hin7 x y hy0 hy1))
  · rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp

/-- One tile's task, whole: from a share of the tokens and of the table, the tile's rows of both halves of the call's
    result come out as the table's rows at the bigrams' and at the trigrams' hashes. -/
theorem tile_spec {Q : PUnit → sProp (MM F)} (T : ℕ → BitVec 32) (v : BitVec 32) (hv : v.toNat + 128 < 1048576)
    (off1 : Fin 1 → ℕ) (h1 : ∀ a, off1 a + S128.size a ≤ S16384.size a) (e1 : off1 = ![v.toNat])
    (cond : BitVec 1) (off2 : Fin 1 → ℕ) (h2 : cond = 1#1 → ∀ a, off2 a + S8.size a ≤ S16384.size a)
    (ec : cond = 1#1 ↔ v.toNat ≠ 0) (e2 : cond = 1#1 → 8 ≤ v.toNat ∧ off2 = ![v.toNat - 8])
    (off3 : Fin 3 → ℕ) (h3 : ∀ a, off3 a + S1x128x128.size a ≤ S2x4096x128.size a)
    (off4 : Fin 3 → ℕ) (h4 : ∀ a, off4 a + S1x128x128.size a ≤ S2x4096x128.size a)
    (q : PosShare TreeShare)
    (O : CellTallies nD τ sig (HIx 4)) (W : Waits sig (HIx 4)) f2 f3 f4 f4' f5 f6 f7 f8 f9
    (hT : ∀ y : S16384.Idx, arg2.view.read (Elt F) f2 y = T (y 0).val) :
    iprop(Transfers.MayWaits (V d c s) (default : HIx 4) O ∗ (arg2.view.loc (V d c s) ↦[arg2.view.set]{q} f2)
      ∗ (arg3.view.loc (V d c s) ↦[arg3.view.set]{q} f3)
      ∗ ((rowsOf arg4 off3 h3).view.loc (V d c s) ↦[(rowsOf arg4 off3 h3).view.set]{fullShare} f4)
      ∗ ((rowsOf arg4 off4 h4).view.loc (V d c s) ↦[(rowsOf arg4 off4 h4).view.set]{fullShare} f4')
      ∗ (arg5.view.loc (V d c s) ↦[arg5.view.set]{fullShare} f5)
      ∗ (arg6.view.loc (V d c s) ↦[arg6.view.set]{fullShare} f6)
      ∗ (arg7.view.loc (V d c s) ↦[arg7.view.set]{fullShare} f7)
      ∗ (arg8.view.loc (V d c s) ↦[arg8.view.set]{fullShare} f8)
      ∗ (arg9.view.loc (V d c s) ↦[arg9.view.set]{fullShare} f9)
      ∗ semVal (V d c s, SemLoc.dma arg10.sem) 0
      ∗ semVal (V d c s, SemLoc.dma arg11.sem) 0
      ∗ semVal (V d c s, SemLoc.dma arg12.sem) 0
      ∗ semVal (V d c s, SemLoc.dma arg13.sem) 0
      ∗ semVal (V d c s, SemLoc.dma r0.sem) 0
      ∗ semVal (V d c s, SemLoc.dma r1.sem) 0
      ∗ owes (V d c s) O W)
    ⊢ iprop((∀ g g' f5' f6' f7' f8' f9' W', (⌜Gathered arg3 (biRow T) v.toNat f3 ((rowsOf arg4 off3 h3).view.read (Elt F) g)
              ∧ Gathered arg3 (triRow T) v.toNat f3 ((rowsOf arg4 off4 h4).view.read (Elt F) g') ∧ ∀ p ∈ W', p ∈ W ∨ p.2 = none⌝
          ∗ (arg2.view.loc (V d c s) ↦[arg2.view.set]{q} f2)
          ∗ (arg3.view.loc (V d c s) ↦[arg3.view.set]{q} f3)
          ∗ ((rowsOf arg4 off3 h3).view.loc (V d c s) ↦[(rowsOf arg4 off3 h3).view.set]{fullShare} g)
          ∗ ((rowsOf arg4 off4 h4).view.loc (V d c s) ↦[(rowsOf arg4 off4 h4).view.set]{fullShare} g')
          ∗ (arg5.view.loc (V d c s) ↦[arg5.view.set]{fullShare} f5')
          ∗ (arg6.view.loc (V d c s) ↦[arg6.view.set]{fullShare} f6')
          ∗ (arg7.view.loc (V d c s) ↦[arg7.view.set]{fullShare} f7')
          ∗ (arg8.view.loc (V d c s) ↦[arg8.view.set]{fullShare} f8')
          ∗ (arg9.view.loc (V d c s) ↦[arg9.view.set]{fullShare} f9')
          ∗ semVal (V d c s, SemLoc.dma arg10.sem) 0
          ∗ semVal (V d c s, SemLoc.dma arg11.sem) 0
          ∗ semVal (V d c s, SemLoc.dma arg12.sem) 0
          ∗ semVal (V d c s, SemLoc.dma arg13.sem) 0
          ∗ semVal (V d c s, SemLoc.dma r0.sem) 0
          ∗ semVal (V d c s, SemLoc.dma r1.sem) 0
          ∗ owes (V d c s) O W') -∗ Q ⟨⟩)
      -∗ wp frame (wpE (defs₀ (F := F)) 𝒱₀ (V d c s) none) Set.univ
          (tile c s arg2 arg3 arg4 arg5 arg6 arg7 arg8 harg8 arg9 harg9 arg10 arg11 arg12 arg13 r0 r1
            off1 h1 cond off2 h2 off3 h3 off4 h4 v) Q) := by
  iintro ⟨#Hmw, H2, H3, H4, H4', H5, H6, H7, H8, H9, Hs10, Hs11, Hs12, Hs13, Hr0, Hr1, HO⟩ Hκ
  unfold tile
  iapply (fetch_spec d c s arg2 arg5 r0 _ T v.toNat off1 h1 e1 q O W f2 f5 hT) $$ [H2 H5 Hr0 HO]
  · isplitr; · iexact Hmw
    isplitl [H2]; · iexact H2
    isplitl [H5]; · iexact H5
    isplitl [Hr0]; · iexact Hr0
    iexact HO
  iintro %f5a %W1 ⟨%hf, H2, H5, Hr0, HO⟩
  iapply (fetchPrev_spec d c s arg2 arg5 r1 _ T v.toNat cond off2 h2 ec e2 q O W1 f2 f5a hT hf.1) $$ [H2 H5 Hr1 HO]
  · isplitr; · iexact Hmw
    isplitl [H2]; · iexact H2
    isplitl [H5]; · iexact H5
    isplitl [Hr1]; · iexact Hr1
    iexact HO
  iintro %f5b %W2 ⟨%hg, H2, H5, Hr1, HO⟩
  iapply (chunks_spec d c s arg5 arg6 arg7 _ T v hv f5b f6 f7 hg.1) $$ [H5 H6 H7]
  · isplitl [H5]; · iexact H5
    isplitl [H6]; · iexact H6
    iexact H7
  iintro %f6a %f7a ⟨%hl, H5, H6, H7⟩
  iapply (gathers_spec d c s arg3 arg4 arg6 arg7 arg8 harg8 arg9 harg9 arg10 arg11 arg12 arg13 (biRow T) (triRow T) v.toNat
    off3 h3 off4 h4 q O W2 f3 f4 f4' f6a f7a f8 f9 (biRow_lt T) (triRow_lt T) hl.1 hl.2) $$ [H3 H4 H4' H6 H7 H8 H9 Hs10 Hs11 Hs12 Hs13 HO]
  · isplitr; · iexact Hmw
    isplitl [H3]; · iexact H3
    isplitl [H4]; · iexact H4
    isplitl [H4']; · iexact H4'
    isplitl [H6]; · iexact H6
    isplitl [H7]; · iexact H7
    isplitl [H8]; · iexact H8
    isplitl [H9]; · iexact H9
    isplitl [Hs10]; · iexact Hs10
    isplitl [Hs11]; · iexact Hs11
    isplitl [Hs12]; · iexact Hs12
    isplitl [Hs13]; · iexact Hs13
    iexact HO
  iintro %g %g' %f6b %f7b %f8b %f9b %W3 ⟨%hz, H3, H4, H4', H6, H7, H8, H9, Hs10, Hs11, Hs12, Hs13, HO⟩
  ispecialize Hκ $$ %g %g' %f5b %f6b %f7b %f8b %f9b %W3
  iapply Hκ
  isplitr
  · ipureintro
    refine ⟨hz.1, hz.2.1, fun p hp => ?_⟩
    rcases hz.2.2 p hp with hp | hp; swap; · exact .inr hp
    rcases hg.2 p hp with hp | hp; swap; · exact .inr hp
    exact hf.2 p hp
  isplitl [H2]; · iexact H2
  isplitl [H3]; · iexact H3
  isplitl [H4]; · iexact H4
  isplitl [H4']; · iexact H4'
  isplitl [H5]; · iexact H5
  isplitl [H6]; · iexact H6
  isplitl [H7]; · iexact H7
  isplitl [H8]; · iexact H8
  isplitl [H9]; · iexact H9
  isplitl [Hs10]; · iexact Hs10
  isplitl [Hs11]; · iexact Hs11
  isplitl [Hs12]; · iexact Hs12
  isplitl [Hs13]; · iexact Hs13
  isplitl [Hr0]; · iexact Hr0
  isplitl [Hr1]; · iexact Hr1
  iexact HO

end Cert.Proof.Tile

end
-- ==== Proof.Offsets.lean ====
/-
  Where the tiles of the four calls read and write: each printed offset, and the printed condition, as
  plain numbers of the call and the tile.
-/
module

public import proofs.«01_k».proof.Proof.Body
public import proofs.«01_k».proof.Proof.Gen.KernelIdeal

@[expose] public section

set_option maxRecDepth 65536

noncomputable section

namespace Cert.Proof.Offsets

open Cert.KernelIdeal Cert.KernelIdeal.Gen Cert.Proof.Body
open Idealize.ShloMosaic

/-- The tile at SparseCore `a`, place `b`. -/
def at2 (a : Fin 2) (b : Fin 16) : grid0.Coords :=
  fun | 0 => a | 1 => b | ⟨_ + 2, h⟩ => absurd h (Nat.not_lt.2 (Nat.le_add_left _ _))

/-- A tile is the one at its two coordinates. -/
theorem eq_at2 (i : grid0.Coords) : i = at2 (i 0) (i 1) := by
  funext a
  match a with
  | 0 => rfl
  | 1 => rfl

/-- The tile's number, 0 to 31. -/
def no (i : grid0.Coords) : ℕ := 2 * (i 1).val + (i 0).val

/-- There are 32 tiles. -/
theorem no_lt (i : grid0.Coords) : no i < 32 := by
  have h0 : (i 0).val < 2 := (i 0).isLt
  have h1 : (i 1).val < 16 := (i 1).isLt
  unfold no; omega

/-- The numbers a call's offsets are: `n` the first position of the call, `v` the tile's first position. -/
structure At (n : ℕ) (v : BitVec 32) (w : ℕ) (off1 : Fin 1 → ℕ) (cond : BitVec 1) (off2 : Fin 1 → ℕ) (off3 off4 : Fin 3 → ℕ) : Prop where
  hv : v.toNat = n + 128 * w
  h1 : off1 = ![v.toNat]
  hc : cond = 1#1 ↔ v.toNat ≠ 0
  h2 : cond = 1#1 → 8 ≤ v.toNat ∧ off2 = ![v.toNat - 8]
  h3 : off3 = ![0, 128 * w, 0]
  h4 : off4 = ![1, 128 * w, 0]

/-- An offset of one axis, by its value. -/
theorem fun1_eq {f : Fin 1 → ℕ} {a : ℕ} (h : f 0 = a) : f = ![a] := by
  funext x
  match x with
  | 0 => exact h

/-- An offset of three axes, by its values. -/
theorem fun3_eq {f : Fin 3 → ℕ} {a b c : ℕ} (h : f 0 = a ∧ f 1 = b ∧ f 2 = c) : f = ![a, b, c] := by
  funext x
  match x with
  | 0 => exact h.1
  | 1 => exact h.2.1
  | 2 => exact h.2.2

/-- The same, as statements about numbers only. -/
def Raw (n : ℕ) (v : BitVec 32) (w : ℕ) (off1 : Fin 1 → ℕ) (cond : BitVec 1) (off2 : Fin 1 → ℕ) (off3 off4 : Fin 3 → ℕ) : Prop :=
  v.toNat = n + 128 * w ∧ off1 0 = v.toNat ∧ (cond = 1#1 ↔ v.toNat ≠ 0) ∧ (cond = 1#1 → 8 ≤ v.toNat ∧ off2 0 = v.toNat - 8)
    ∧ (off3 0 = 0 ∧ off3 1 = 128 * w ∧ off3 2 = 0) ∧ (off4 0 = 1 ∧ off4 1 = 128 * w ∧ off4 2 = 0)

/-- The numbers' statement can be decided. -/
instance (n : ℕ) (v : BitVec 32) (w : ℕ) (off1 : Fin 1 → ℕ) (cond : BitVec 1) (off2 : Fin 1 → ℕ) (off3 off4 : Fin 3 → ℕ) :
    Decidable (Raw n v w off1 cond off2 off3 off4) := by unfold Raw; infer_instance

/-- The numbers' statement gives the offsets'. -/
theorem At.of_raw {n : ℕ} {v : BitVec 32} {w : ℕ} {off1 : Fin 1 → ℕ} {cond : BitVec 1} {off2 : Fin 1 → ℕ} {off3 off4 : Fin 3 → ℕ}
    (h : Raw n v w off1 cond off2 off3 off4) : At n v w off1 cond off2 off3 off4 :=
  ⟨h.1, fun1_eq h.2.1, h.2.2.1, fun hc => ⟨(h.2.2.2.1 hc).1, fun1_eq (h.2.2.2.1 hc).2⟩, fun3_eq h.2.2.2.2.1, fun3_eq h.2.2.2.2.2⟩

/-- The offsets of the first call. -/
theorem at0 (i : grid0.Coords) : At 0 (baseWord 0#32 i) (no i) (k0_off1 i) (k0_cond1 i) (k0_off2 i) (k0_off3 i) (k0_off4 i) := by
  rw [eq_at2 i]; generalize i 0 = a; generalize i 1 = b
  exact .of_raw ((by decide +kernel : ∀ (a : Fin 2) (b : Fin 16), Raw 0 (baseWord 0#32 (at2 a b)) (no (at2 a b)) (k0_off1 (at2 a b)) (k0_cond1 (at2 a b)) (k0_off2 (at2 a b)) (k0_off3 (at2 a b)) (k0_off4 (at2 a b))) a b)

/-- The offsets of the second call. -/
theorem at1 (i : grid0.Coords) : At 4096 (baseWord 4096#32 i) (no i) (k1_off1 i) (k1_cond1 i) (k1_off2 i) (k1_off3 i) (k1_off4 i) := by
  rw [eq_at2 i]; generalize i 0 = a; generalize i 1 = b
  exact .of_raw ((by decide +kernel : ∀ (a : Fin 2) (b : Fin 16), Raw 4096 (baseWord 4096#32 (at2 a b)) (no (at2 a b)) (k1_off1 (at2 a b)) (k1_cond1 (at2 a b)) (k1_off2 (at2 a b)) (k1_off3 (at2 a b)) (k1_off4 (at2 a b))) a b)

/-- The offsets of the third call. -/
theorem at2' (i : grid0.Coords) : At 8192 (baseWord 8192#32 i) (no i) (k2_off1 i) (k2_cond1 i) (k2_off2 i) (k2_off3 i) (k2_off4 i) := by
  rw [eq_at2 i]; generalize i 0 = a; generalize i 1 = b
  exact .of_raw ((by decide +kernel : ∀ (a : Fin 2) (b : Fin 16), Raw 8192 (baseWord 8192#32 (at2 a b)) (no (at2 a b)) (k2_off1 (at2 a b)) (k2_cond1 (at2 a b)) (k2_off2 (at2 a b)) (k2_off3 (at2 a b)) (k2_off4 (at2 a b))) a b)

/-- The offsets of the fourth call. -/
theorem at3 (i : grid0.Coords) : At 12288 (baseWord 12288#32 i) (no i) (k3_off1 i) (k3_cond1 i) (k3_off2 i) (k3_off3 i) (k3_off4 i) := by
  rw [eq_at2 i]; generalize i 0 = a; generalize i 1 = b
  exact .of_raw ((by decide +kernel : ∀ (a : Fin 2) (b : Fin 16), Raw 12288 (baseWord 12288#32 (at2 a b)) (no (at2 a b)) (k3_off1 (at2 a b)) (k3_cond1 (at2 a b)) (k3_off2 (at2 a b)) (k3_off3 (at2 a b)) (k3_off4 (at2 a b))) a b)

end Cert.Proof.Offsets

end
-- ==== Proof.Call.lean ====
/-
  One tile's task of one call, from what the call's handshake hands the tile to what it hands back,
  whichever of the four calls it is.
-/
module

public import proofs.«01_k».proof.Proof.Tile
public import proofs.«01_k».proof.Proof.Offsets

@[expose] public section

set_option maxRecDepth 65536

noncomputable section

namespace Cert.Proof.Call

open Cert.KernelIdeal Cert.KernelIdeal.Gen Cert.Proof Cert.Proof.Body Cert.Proof.Hash Cert.Proof.Tile Cert.Proof.Offsets
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What a call leaves -/

/-- The table index at the row a word names and a column. -/
def tabIx (w : BitVec 32) (k : Fin 128) : S1000000x128.Idx :=
  fun | 0 => ⟨w.toNat % 1000000, Nat.mod_lt _ (by decide)⟩ | 1 => k | ⟨_ + 2, h⟩ => absurd h (Nat.not_lt.2 (Nat.le_add_left _ _))

/-- The result of the call whose first position is `n`: in the first half the table's row at each position's bigram hash,
    in the second half its row at the position's trigram hash. -/
def hVal (T : ℕ → BitVec 32) (tab : S1000000x128.Idx → Elt F .f32) (n : ℕ) (y : S2x4096x128.Idx) : Elt F .f32 :=
  if (y 0).val = 0 then tab (tabIx (biRow T (n + (y 1).val)) (y 2)) else tab (tabIx (triRow T (n + (y 1).val)) (y 2))

/-- Tile `w`'s rows of half `j` of a call's result. -/
def band (j w : ℕ) : Finset S2x4096x128.Idx :=
  Finset.univ.filter fun y => (y 0).val = j ∧ 128 * w ≤ (y 1).val ∧ (y 1).val < 128 * w + 128

/-- An element is in a band when it is in that half and among that tile's 128 positions. -/
theorem mem_band {j w : ℕ} {y : S2x4096x128.Idx} : y ∈ band j w ↔ (y 0).val = j ∧ 128 * w ≤ (y 1).val ∧ (y 1).val < 128 * w + 128 := by
  unfold band; rw [Finset.mem_filter]; exact and_iff_right (Finset.mem_univ y)

/-- The rectangle of 128 rows at a tile's offset in a half is that tile's band. -/
theorem rect_band {off : Fin 3 → ℕ} {j w : ℕ} (e : off = ![j, 128 * w, 0]) (h : ∀ a, off a + S1x128x128.size a ≤ S2x4096x128.size a) :
    (Rect.unit (s := S2x4096x128) off S1x128x128.size h).set = band j w := by
  subst e
  ext y
  rw [Rect.mem_set_unit, mem_band]
  have h2 : (y 2).val < 128 := (y 2).isLt
  constructor
  · intro hy
    have a0 := hy 0; have a1 := hy 1
    change j ≤ (y 0).val ∧ (y 0).val < j + 1 at a0
    change 128 * w ≤ (y 1).val ∧ (y 1).val < 128 * w + 128 at a1
    exact ⟨by omega, a1⟩
  · rintro ⟨e0, e1⟩ a
    match a with
    | 0 => show j ≤ (y 0).val ∧ (y 0).val < j + 1; omega
    | 1 => exact e1
    | 2 => show 0 ≤ (y 2).val ∧ (y 2).val < 0 + 128; omega

/-- Two contents that a view reads alike are alike on its elements. -/
theorem pts_of_read {thr : Thread nD τ} {sp : Space} {sh : Shape} {e : EltTy} (v : View sig thr.2.kind sp sh e) (g g' : v.ty.Contents (Elt F))
    (h : ∀ x, v.read (Elt F) g x = v.read (Elt F) g' x) (q : PosShare TreeShare) :
    (v.loc thr ↦[v.set]{q} g : sProp (MM F)) = v.loc thr ↦[v.set]{q} g' :=
  pointsTo_congr fun i hi => by
    obtain ⟨x, -, rfl⟩ := Finset.mem_map.mp hi
    have hx := h x
    rw [View.read_apply, View.read_apply] at hx
    exact (cast_bijective _).injective hx

/-- Where a tile's rows lie in the call's result. -/
theorem rows_ix {off : Fin 3 → ℕ} {j w : ℕ} (e : off = ![j, 128 * w, 0]) (h : ∀ a, off a + S1x128x128.size a ≤ S2x4096x128.size a) (x : S128x128.Idx)
    (y : S2x4096x128.Idx)
    (hy : y = (Rect.unit (s := S2x4096x128) off S1x128x128.size h).emb (Shape.reshapeEquiv squeezes_S1x128x128_S128x128.numel_eq x)) :
    (y 0).val = j ∧ (y 1).val = 128 * w + (x 0).val ∧ (y 2).val = (x 1).val := by
  subst e
  rw [Shape.reshapeEquiv_cons_one] at hy
  subst hy
  refine ⟨?_, ?_, ?_⟩
  · show j + 1 * 0 = j; omega
  · show 128 * w + 1 * (x 0).val = _; omega
  · show 0 + 1 * (x 1).val = _; omega

variable (d : Dev nD) (c : Fin τ.nSC) (s : Fin τ.nSub)
variable (arg2 : Memref sig .scVector .hbm S16384 .i32) (arg3 : Memref sig .scVector .hbm S1000000x128 .f32)
  (arg4 : Memref sig .scVector .hbm S2x4096x128 .f32)
  (arg5 : Memref sig .scVector .vmem S136 .i32) (arg6 arg7 : Memref sig .scVector .vmem S128 .i32)
  (arg8 : Memref sig .scVector .vmem S128x128 .f32) (harg8 : arg8.IsWhole)
  (arg9 : Memref sig .scVector .vmem S128x128 .f32) (harg9 : arg9.IsWhole)
  (arg10 arg11 arg12 arg13 r0 r1 : DmaSems sig S_)

/-- A tile's rows, gathered as a list of hashes names them, are the call's result there. -/
theorem rows_read (T : ℕ → BitVec 32) (tab : S1000000x128.Idx → Elt F .f32) (n w : ℕ) (v : BitVec 32) (hv : v.toNat = n + 128 * w)
    (R : ℕ → BitVec 32) (hR : ∀ p, (R p).toNat < 1000000) (j : ℕ)
    (hj : ∀ y : S2x4096x128.Idx, (y 0).val = j → hVal T tab n y = tab (tabIx (R (n + (y 1).val)) (y 2)))
    (f3 : arg3.view.ty.Contents (Elt F)) (htab : ∀ y, arg3.view.read (Elt F) f3 y = tab y)
    (F4 : arg4.view.ty.Contents (Elt F)) (hF4 : ∀ y, arg4.view.read (Elt F) F4 y = hVal T tab n y)
    {off : Fin 3 → ℕ} (e : off = ![j, 128 * w, 0]) (h : ∀ a, off a + S1x128x128.size a ≤ S2x4096x128.size a)
    (rd : S128x128.Idx → Elt F .f32) (hg : Gathered arg3 R v.toNat f3 rd) :
    ∀ x, rd x = (rowsOf arg4 off h).view.read (Elt F) F4 x := fun x => by
  have hr : (rowsOf arg4 off h).view.read (Elt F) F4 x
      = arg4.view.read (Elt F) F4 ((Rect.unit (s := S2x4096x128) off S1x128x128.size h).emb (Shape.reshapeEquiv squeezes_S1x128x128_S128x128.numel_eq x)) := rfl
  rw [hr]
  generalize hy : (Rect.unit (s := S2x4096x128) off S1x128x128.size h).emb (Shape.reshapeEquiv squeezes_S1x128x128_S128x128.numel_eq x) = y
  obtain ⟨y0, y1, y2⟩ := rows_ix e h x y hy.symm
  rw [hF4, hj y y0, ← htab]
  refine hg x _ ?_ ?_
  · show (R (n + (y 1).val)).toNat % 1000000 = _
    rw [Nat.mod_eq_of_lt (hR _), hv, y1, Nat.add_assoc]
  · exact y2

/-- One tile's task of the call whose first position is `n`, tile number `w`: handed a share of the tokens and of the table and
    its two bands of the result, it leaves in them the call's result. -/
theorem callTile (T : ℕ → BitVec 32) (tab : S1000000x128.Idx → Elt F .f32) (n w : ℕ) (v : BitVec 32)
    (off1 : Fin 1 → ℕ) (h1 : ∀ a, off1 a + S128.size a ≤ S16384.size a)
    (cond : BitVec 1) (off2 : Fin 1 → ℕ) (h2 : cond = 1#1 → ∀ a, off2 a + S8.size a ≤ S16384.size a)
    (off3 : Fin 3 → ℕ) (h3 : ∀ a, off3 a + S1x128x128.size a ≤ S2x4096x128.size a)
    (off4 : Fin 3 → ℕ) (h4 : ∀ a, off4 a + S1x128x128.size a ≤ S2x4096x128.size a)
    (hA : At n v w off1 cond off2 off3 off4) (hn : n + 128 * w + 128 < 1048576)
    (q : PosShare TreeShare) (O : CellTallies nD τ sig (HIx 4)) (W : Waits sig (HIx 4)) f2 f3 f4
    (hT : ∀ y : S16384.Idx, arg2.view.read (Elt F) f2 y = T (y 0).val)
    (htab : ∀ y, arg3.view.read (Elt F) f3 y = tab y)
    (F4 : arg4.view.ty.Contents (Elt F)) (hF4 : ∀ y, arg4.view.read (Elt F) F4 y = hVal T tab n y)
    (RB RS : sProp (MM F))
    (hB : (ownBufs (V d c s) : sProp (MM F)) = iprop((∃ f, arg5.view.loc (V d c s) ↦[arg5.view.set]{fullShare} f)
      ∗ (∃ f, arg6.view.loc (V d c s) ↦[arg6.view.set]{fullShare} f) ∗ (∃ f, arg7.view.loc (V d c s) ↦[arg7.view.set]{fullShare} f)
      ∗ (∃ f, arg8.view.loc (V d c s) ↦[arg8.view.set]{fullShare} f) ∗ (∃ f, arg9.view.loc (V d c s) ↦[arg9.view.set]{fullShare} f) ∗ RB))
    (hS : (ownSems0 (V d c s) : sProp (MM F)) = iprop(semVal (V d c s, SemLoc.dma arg10.sem) 0
      ∗ semVal (V d c s, SemLoc.dma arg11.sem) 0 ∗ semVal (V d c s, SemLoc.dma arg12.sem) 0 ∗ semVal (V d c s, SemLoc.dma arg13.sem) 0
      ∗ semVal (V d c s, SemLoc.dma r0.sem) 0 ∗ semVal (V d c s, SemLoc.dma r1.sem) 0 ∗ RS)) :
    iprop(Transfers.MayWaits (V d c s) (default : HIx 4) O
      ∗ ((arg2.view.loc (V d c s) ↦[arg2.view.set]{q} f2) ∗ (arg3.view.loc (V d c s) ↦[arg3.view.set]{q} f3)
        ∗ ((rowsOf arg4 off3 h3).view.loc (V d c s) ↦[(rowsOf arg4 off3 h3).view.set]{fullShare} f4)
        ∗ ((rowsOf arg4 off4 h4).view.loc (V d c s) ↦[(rowsOf arg4 off4 h4).view.set]{fullShare} f4))
      ∗ ownBufs (V d c s) ∗ ownSems0 (V d c s) ∗ owes (V d c s) O W)
    ⊢ wp (M := MM F) frame (wpE (defs₀ (F := F)) 𝒱₀ (V d c s) none) Set.univ
        (tile c s arg2 arg3 arg4 arg5 arg6 arg7 arg8 harg8 arg9 harg9 arg10 arg11 arg12 arg13 r0 r1 off1 h1 cond off2 h2 off3 h3 off4 h4 v)
        fun _ => iprop(((arg2.view.loc (V d c s) ↦[arg2.view.set]{q} f2) ∗ (arg3.view.loc (V d c s) ↦[arg3.view.set]{q} f3)
          ∗ ((rowsOf arg4 off3 h3).view.loc (V d c s) ↦[(rowsOf arg4 off3 h3).view.set]{fullShare} F4)
          ∗ ((rowsOf arg4 off4 h4).view.loc (V d c s) ↦[(rowsOf arg4 off4 h4).view.set]{fullShare} F4))
          ∗ ownBufs (V d c s) ∗ ownSems0 (V d c s) ∗ ∃ W', ⌜∀ p ∈ W', p ∈ W ∨ p.2 = none⌝ ∗ owes (V d c s) O W') := by
  rw [hB, hS]
  iintro ⟨Hmw, ⟨H2, H3, H4, H4'⟩, ⟨⟨%f5, H5⟩, ⟨%f6, H6⟩, ⟨%f7, H7⟩, ⟨%f8, H8⟩, ⟨%f9, H9⟩, HB⟩, ⟨S0, S1, S2, S3, S4, S5, HS⟩, HO⟩
  iapply (tile_spec d c s arg2 arg3 arg4 arg5 arg6 arg7 arg8 harg8 arg9 harg9 arg10 arg11 arg12 arg13 r0 r1 T v (by rw [hA.hv]; exact hn)
    off1 h1 hA.h1 cond off2 h2 hA.hc hA.h2 off3 h3 off4 h4 q O W f2 f3 f4 f4 f5 f6 f7 f8 f9 hT) $$ [Hmw H2 H3 H4 H4' H5 H6 H7 H8 H9 S0 S1 S2 S3 S4 S5 HO]
  · isplitl [Hmw]; · iexact Hmw
    isplitl [H2]; · iexact H2
    isplitl [H3]; · iexact H3
    isplitl [H4]; · iexact H4
    isplitl [H4']; · iexact H4'
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    iexact HO
  iintro %g %g' %f5' %f6' %f7' %f8' %f9' %W' ⟨%hh, H2, H3, H4, H4', H5, H6, H7, H8, H9, S0, S1, S2, S3, S4, S5, HO⟩
  obtain ⟨hg, hg', hW⟩ := hh
  ihave H4 := (Entails.of_eq (pts_of_read (thr := V d c s) (rowsOf arg4 off3 h3).view g F4 (rows_read arg3 arg4 T tab n w v hA.hv (biRow T) (biRow_lt T) 0
    (fun y hy => if_pos hy) f3 htab F4 hF4 hA.h3 h3 _ hg) fullShare)) $$ H4
  ihave H4' := (Entails.of_eq (pts_of_read (thr := V d c s) (rowsOf arg4 off4 h4).view g' F4 (rows_read arg3 arg4 T tab n w v hA.hv (triRow T) (triRow_lt T) 1
    (fun y hy => if_neg (by omega)) f3 htab F4 hF4 hA.h4 h4 _ hg') fullShare)) $$ H4'
  isplitl [H2 H3 H4 H4']
  · isplitl [H2]; · iexact H2
    isplitl [H3]; · iexact H3
    isplitl [H4]; · iexact H4
    iexact H4'
  isplitl [H5 H6 H7 H8 H9 HB]
  · isplitl [H5]; · iexists f5'; iexact H5
    isplitl [H6]; · iexists f6'; iexact H6
    isplitl [H7]; · iexists f7'; iexact H7
    isplitl [H8]; · iexists f8'; iexact H8
    isplitl [H9]; · iexists f9'; iexact H9
    iexact HB
  isplitl [S0 S1 S2 S3 S4 S5 HS]
  · isplitl [S0]; · iexact S0
    isplitl [S1]; · iexact S1
    isplitl [S2]; · iexact S2
    isplitl [S3]; · iexact S3
    isplitl [S4]; · iexact S4
    isplitl [S5]; · iexact S5
    iexact HS
  iexists W'
  isplitr
  · ipureintro; exact hW
  iexact HO

/-! ## What a tile owns -/

/-- The listed members of a family first, then the rest. -/
theorem bigSep_take {I : Type} [DecidableEq I] (Φ : I → sProp (MM F)) : ∀ (L : List I) (S : Finset I), L.Nodup → (∀ i ∈ L, i ∈ S) →
    bigSep S Φ = L.foldr (fun i P => iprop(Φ i ∗ P)) (bigSep (L.foldl Finset.erase S) Φ)
  | [], _, _, _ => rfl
  | i :: L, S, hn, hL => by
    rw [SparseCore.bigSep_erase' (hL i List.mem_cons_self),
      bigSep_take Φ L (S.erase i) (List.nodup_cons.mp hn).2 fun k hk =>
        Finset.mem_erase.mpr ⟨fun e => (List.nodup_cons.mp hn).1 (e ▸ hk), hL k (List.mem_cons_of_mem _ hk)⟩]
    rfl

/-- A tile's scratch buffers, five of them named, at some contents. -/
theorem ownBufs_take (b : List (Ref sig .scVector)) (hn : b.Nodup) (ho : ∀ r ∈ b, ((Proc.scVector c s).devRef r).owner = .proc (.scVector c s)) :
    (ownBufs (V d c s) : sProp (MM F))
      = (b.map (Proc.scVector c s).devRef).foldr (fun i P => iprop((∃ f, ((d, i) : Loc nD τ sig) ↦{fullShare} f) ∗ P))
          (bigSep ((b.map (Proc.scVector c s).devRef).foldl Finset.erase (ownRefs (τ := τ) (.scVector c s))) fun i => iprop(∃ f, ((d, i) : Loc nD τ sig) ↦{fullShare} f)) :=
  bigSep_take (fun i => iprop(∃ f, ((d, i) : Loc nD τ sig) ↦{fullShare} f)) _ _ (hn.map (Proc.devRef_injective _)) fun i hi => by
    obtain ⟨r, hr, rfl⟩ := List.mem_map.mp hi
    exact SparseCore.Cfg.mem_ownRefs_of_owner (p := Proc.scVector c s) (b := (Proc.scVector c s).devRef r) (ho r hr)

/-- A tile's semaphores, some of them named. -/
theorem ownSems0_take (b : List (SemLoc sig)) (hn : b.Nodup) (ho : ∀ r ∈ b, r.isScoped .scVector = true) :
    (ownSems0 (V d c s) : sProp (MM F))
      = (b.map fun r => ((V d c s, r) : GSem nD τ sig)).foldr (fun i P => iprop(semVal i 0 ∗ P))
          (bigSep ((b.map fun r => ((V d c s, r) : GSem nD τ sig)).foldl Finset.erase (ownCells (V d c s))) fun g => semVal g 0) :=
  bigSep_take (fun g => semVal g 0) _ _ (hn.map fun _ _ e => (Prod.mk.inj e).2) fun i hi => by
    obtain ⟨r, hr, rfl⟩ := List.mem_map.mp hi
    exact mem_ownCells.mpr ⟨rfl, ho r hr⟩

end Cert.Proof.Call

end
-- ==== Proof.Calls.lean ====
/-
  What the four SparseCore calls are handed and hand back, and each tile's task of each call.
-/
module

public import proofs.«01_k».proof.Proof.Call

@[expose] public section

set_option maxRecDepth 65536

noncomputable section

namespace Cert.Proof.Calls

open Cert.KernelIdeal Cert.KernelIdeal.Gen Cert.Proof Cert.Proof.Body Cert.Proof.Hash Cert.Proof.Tile Cert.Proof.Offsets Cert.Proof.Call
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

/-! ## Shares, one for each tile -/

/-- What is left of share `q` once `n` tiles have had theirs. -/
def rest (q : PosShare TreeShare) : ℕ → PosShare TreeShare
  | 0 => q
  | n + 1 => (rest q n).right

/-- Tile `n`'s part of share `q`. -/
def part (q : PosShare TreeShare) (n : ℕ) : PosShare TreeShare := (rest q n).left

omit [FloatOps F] in
/-- Three resources, the second brought to the front. -/
theorem sep_rot (A B C : sProp (MM F)) : iprop(A ∗ B ∗ C) = iprop((B ∗ A) ∗ C) := by
  have h1 : iprop(A ∗ B ∗ C) ⊢ iprop((B ∗ A) ∗ C) := by
    iintro ⟨A, B, C⟩
    isplitl [A B]
    · isplitl [B] <;> iassumption
    iexact C
  have h2 : iprop((B ∗ A) ∗ C) ⊢ iprop(A ∗ B ∗ C) := by
    iintro ⟨⟨B, A⟩, C⟩
    isplitl [A]; · iexact A
    isplitl [B] <;> iassumption
  exact Entails.antisymm h1 h2

omit [FloatOps F] in
/-- A points-to is the first `n` tiles' parts of it and what is left. -/
theorem pointsTo_parts {ℓ : Loc nD τ sig} (I : Finset (Idx ℓ)) (q : PosShare TreeShare) (f : Buf (Elt F) ℓ) :
    ∀ n, (ℓ ↦[I]{q} f : sProp (MM F)) = iprop((bigSep (Finset.range n) fun i => ℓ ↦[I]{part q i} f) ∗ ℓ ↦[I]{rest q n} f)
  | 0 => by
    rw [Finset.range_zero, bigSep_empty]
    exact (Entails.antisymm emp_sep.1 emp_sep.2).symm
  | n + 1 => by
    rw [Finset.range_add_one, SparseCore.bigSep_insert' Finset.notMem_range_self]
    refine (pointsTo_parts I q f n).trans ?_
    rw [Entails.antisymm (pointsTo_share (ℓ := ℓ) (I := I) (f := f) (PosShare.mem_left_op_right (rest q n))).1
      (pointsTo_share (PosShare.mem_left_op_right (rest q n))).2]
    exact sep_rot _ _ _

/-! ## The buffers of a call -/

/-- The flat token array. -/
abbrev tokLoc (d : Dev nD) : Loc nD τ sig := (SparseCore.T d).loc main_v0
/-- The table's array. -/
abbrev tabLoc (d : Dev nD) : Loc nD τ sig := (SparseCore.T d).loc main_arg1

/-- The tokens as the calls read them: one row after the other. -/
def tokBuf (d : Dev nD) : Buf (Elt F) (tokLoc d) :=
  fun x : S16384.Idx => m ((SparseCore.T d).loc main_arg0) (Shape.reshapeEquiv shapeCasts_S4x4096_S16384 x)

/-- The table. -/
def table (d : Dev nD) : S1000000x128.Idx → Elt F .f32 := m (tabLoc d)

/-- The position `p` of the flat token array. -/
def posIx (p : ℕ) : S16384.Idx := fun | 0 => ⟨p % 16384, Nat.mod_lt _ (by decide)⟩ | ⟨_ + 1, h⟩ => absurd h (Nat.not_lt.2 (Nat.le_add_left _ _))

/-- The token at position `p`. -/
def toks (d : Dev nD) (p : ℕ) : BitVec 32 := tokBuf m d (posIx p)

/-- Elements `S` of the result of call `q`, at contents `f`. -/
def outPts (q : Fin 4) (d : Dev nD) (S : Finset S2x4096x128.Idx) (f : S2x4096x128.Idx → Elt F .f32) : sProp (MM F) :=
  match q with
  | 0 => (SparseCore.T d).loc main_v2 ↦[S]{fullShare} f
  | 1 => (SparseCore.T d).loc main_v3 ↦[S]{fullShare} f
  | 2 => (SparseCore.T d).loc main_v4 ↦[S]{fullShare} f
  | 3 => (SparseCore.T d).loc main_v5 ↦[S]{fullShare} f

/-- What the result of call `q` holds at the launch. -/
def outInit (q : Fin 4) (d : Dev nD) : S2x4096x128.Idx → Elt F .f32 :=
  match q with
  | 0 => m ((SparseCore.T d).loc main_v2)
  | 1 => m ((SparseCore.T d).loc main_v3)
  | 2 => m ((SparseCore.T d).loc main_v4)
  | 3 => m ((SparseCore.T d).loc main_v5)

/-- What call `q` leaves in its result. -/
def outFin (q : Fin 4) (d : Dev nD) : S2x4096x128.Idx → Elt F .f32 := hVal (toks m d) (table m d) (4096 * q.val)

/-- What tile `w` of call `q` holds, its bands of the result at `f`. -/
def tileRes (q : Fin 4) (d : Dev nD) (f : S2x4096x128.Idx → Elt F .f32) (w : ℕ) : sProp (MM F) :=
  iprop((tokLoc d ↦{part fullShare w} tokBuf m d) ∗ (tabLoc d ↦{part fullShare w} m (tabLoc d))
    ∗ outPts q d (band 0 w) f ∗ outPts q d (band 1 w) f)

/-- What SparseCore `c` of call `q` holds: its sixteen tiles'. -/
def coreRes (q : Fin 4) (d : Dev nD) (f : S2x4096x128.Idx → Elt F .f32) (c : ℕ) : sProp (MM F) :=
  bigSep Finset.univ fun i : Fin ((K (F := F)).nSub q) => tileRes m q d f (2 * i.val + c)

/-- Part of a call's result may be carried by a handshake. -/
instance outPts_storable (q : Fin 4) (d : Dev nD) (S : Finset S2x4096x128.Idx) (f : S2x4096x128.Idx → Elt F .f32) :
    BI.Storable (upEmb : UEmb _ (MM F)) (outPts q d S f) := by
  unfold outPts; split <;> infer_instance

/-- What a tile holds may be carried by a handshake. -/
instance tileRes_storable (q : Fin 4) (d : Dev nD) (f : S2x4096x128.Idx → Elt F .f32) (w : ℕ) :
    BI.Storable (upEmb : UEmb _ (MM F)) (tileRes m q d f w) := by
  unfold tileRes; infer_instance

/-- What a SparseCore holds may be carried by a handshake. -/
instance coreRes_storable (q : Fin 4) (d : Dev nD) (f : S2x4096x128.Idx → Elt F .f32) (c : ℕ) :
    BI.Storable (upEmb : UEmb _ (MM F)) (coreRes m q d f c) := by
  unfold coreRes; infer_instance

/-- What the handshakes carry: to each tile its parts of the tokens and of the table and its bands of the result, back the same
    with the bands filled. -/
def P : (K (F := F)).Pay (nD := nD) (Val := Elt F) (Name := ℕ) (U := UU) where
  st := fun q d c => coreRes m q d (outInit m q d) c.val
  dn := fun q d c => coreRes m q d (outFin m q d) c.val
  go := fun q d c i => tileRes m q d (outInit m q d) (2 * i.val + c.val)
  td := fun q d c i => tileRes m q d (outFin m q d) (2 * i.val + c.val)
  x := fun _ _ => iprop(emp)

/-- Everything the handshakes carry may be carried. -/
instance P_storable : (P (F := F) m).IsStorable where
  st q d c := coreRes_storable m q d _ _
  dn q d c := coreRes_storable m q d _ _
  go q d c i := tileRes_storable m q d _ _
  td q d c i := tileRes_storable m q d _ _

/-- A SparseCore's resources are its sixteen tiles', going out and coming back. -/
theorem vecSplit (q : Fin 4) : (K (F := F)).VecSplit' (P m) q := by
  intro d c
  show coreRes m q d (outInit m q d) c.val ⊢ |={Set.univ}=> iprop(coreRes m q d (outInit m q d) c.val ∗ (coreRes m q d (outFin m q d) c.val -∗ coreRes m q d (outFin m q d) c.val))
  iintro H; imodintro
  isplitl [H]; · iexact H
  iintro H; iexact H

/-! ## A tile's task -/

omit [FloatOps F] in
/-- A tile that waits on nothing of a call meets the weaker bound on its waits that a call asks for. -/
theorem obl_post {thr : Thread nD τ} {A B C : sProp (MM F)} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The rows of the result a tile writes in a half are its band, seen through the result's memory reference. -/
theorem set_rowsOf (arg4 : Memref sig .scVector .hbm S2x4096x128 .f32) {off : Fin 3 → ℕ} {j w : ℕ} (e : off = ![j, 128 * w, 0])
    (h : ∀ a, off a + S1x128x128.size a ≤ S2x4096x128.size a) : (rowsOf arg4 off h).view.set = (band j w).map arg4.view.emb := by
  rw [← rect_band e h]
  show ((arg4.view.slice (Rect.unit (s := S2x4096x128) off S1x128x128.size h)).reshape S128x128 squeezes_S1x128x128_S128x128.numel_eq).set = _
  rw [View.set_reshape, View.set_slice]

variable (d : Dev nD) (i : grid0.Coords)

/-- The tile at coordinates `i` of call `q`, its result seen through `arg4`. -/
theorem task (q : Fin 4) (arg4 : Memref sig .scVector .hbm S2x4096x128 .f32)
    (arg5 : Memref sig .scVector .vmem S136 .i32) (arg6 arg7 : Memref sig .scVector .vmem S128 .i32)
    (arg8 : Memref sig .scVector .vmem S128x128 .f32) (harg8 : arg8.IsWhole)
    (arg9 : Memref sig .scVector .vmem S128x128 .f32) (harg9 : arg9.IsWhole)
    (arg10 arg11 arg12 arg13 r0 r1 : DmaSems sig S_)
    (v : BitVec 32) (off1 : Fin 1 → ℕ) (h1 : ∀ a, off1 a + S128.size a ≤ S16384.size a)
    (cond : BitVec 1) (off2 : Fin 1 → ℕ) (h2 : cond = 1#1 → ∀ a, off2 a + S8.size a ≤ S16384.size a)
    (off3 : Fin 3 → ℕ) (h3 : ∀ a, off3 a + S1x128x128.size a ≤ S2x4096x128.size a)
    (off4 : Fin 3 → ℕ) (h4 : ∀ a, off4 a + S1x128x128.size a ≤ S2x4096x128.size a)
    (hA : At (4096 * q.val) v (no i) off1 cond off2 off3 off4)
    (lift : (S2x4096x128.Idx → Elt F .f32) → arg4.view.ty.Contents (Elt F))
    (hlift : ∀ f y, arg4.view.read (Elt F) (lift f) y = f y)
    (hout : ∀ S f, (outPts q d S f : sProp (MM F)) = (arg4.view.loc (V d ((i 0).castLE hcore0) ((i 1).castLE hsub0)) ↦[S.map arg4.view.emb]{fullShare} lift f))
    (RB RS : sProp (MM F))
    (hB : (ownBufs (V d ((i 0).castLE hcore0) ((i 1).castLE hsub0)) : sProp (MM F)) = iprop((∃ f, arg5.view.loc (V d ((i 0).castLE hcore0) ((i 1).castLE hsub0)) ↦[arg5.view.set]{fullShare} f)
      ∗ (∃ f, arg6.view.loc (V d ((i 0).castLE hcore0) ((i 1).castLE hsub0)) ↦[arg6.view.set]{fullShare} f) ∗ (∃ f, arg7.view.loc (V d ((i 0).castLE hcore0) ((i 1).castLE hsub0)) ↦[arg7.view.set]{fullShare} f)
      ∗ (∃ f, arg8.view.loc (V d ((i 0).castLE hcore0) ((i 1).castLE hsub0)) ↦[arg8.view.set]{fullShare} f) ∗ (∃ f, arg9.view.loc (V d ((i 0).castLE hcore0) ((i 1).castLE hsub0)) ↦[arg9.view.set]{fullShare} f) ∗ RB))
    (hS : (ownSems0 (V d ((i 0).castLE hcore0) ((i 1).castLE hsub0)) : sProp (MM F)) = iprop(semVal (V d ((i 0).castLE hcore0) ((i 1).castLE hsub0), SemLoc.dma arg10.sem) 0
      ∗ semVal (V d ((i 0).castLE hcore0) ((i 1).castLE hsub0), SemLoc.dma arg11.sem) 0 ∗ semVal (V d ((i 0).castLE hcore0) ((i 1).castLE hsub0), SemLoc.dma arg12.sem) 0 ∗ semVal (V d ((i 0).castLE hcore0) ((i 1).castLE hsub0), SemLoc.dma arg13.sem) 0
      ∗ semVal (V d ((i 0).castLE hcore0) ((i 1).castLE hsub0), SemLoc.dma r0.sem) 0 ∗ semVal (V d ((i 0).castLE hcore0) ((i 1).castLE hsub0), SemLoc.dma r1.sem) 0 ∗ RS))
    (O : CellTallies nD τ sig (HIx 4)) (W : Waits sig (HIx 4)) (hO : ∀ g, O g none = 0) :
    iprop(levAts (K (F := F)).L (K (F := F)).lev ∗ emp ∗ tileRes m q d (outInit m q d) (no i)
      ∗ scopedBufs (V d ((i 0).castLE hcore0) ((i 1).castLE hsub0)) ∗ scopedSems0 (V d ((i 0).castLE hcore0) ((i 1).castLE hsub0))
      ∗ owes (V d ((i 0).castLE hcore0) ((i 1).castLE hsub0)) O W)
    ⊢ wp (M := MM F) frame (wpE (defs₀ (F := F)) 𝒱₀ (V d ((i 0).castLE hcore0) ((i 1).castLE hsub0)) none) Set.univ
        (tile ((i 0).castLE hcore0) ((i 1).castLE hsub0) (Memref.whole main_v0_scv) (Memref.whole main_arg1_scv) arg4 arg5 arg6 arg7 arg8 harg8 arg9 harg9
          arg10 arg11 arg12 arg13 r0 r1 off1 h1 cond off2 h2 off3 h3 off4 h4 v)
        fun _ => iprop(tileRes m q d (outFin m q d) (no i) ∗ scopedBufs (V d ((i 0).castLE hcore0) ((i 1).castLE hsub0))
          ∗ scopedSems0 (V d ((i 0).castLE hcore0) ((i 1).castLE hsub0)) ∗ ∃ W', ⌜∀ p ∈ W', p ∈ W ∨ p.2 = none⌝ ∗ owes (V d ((i 0).castLE hcore0) ((i 1).castLE hsub0)) O W') := by
  rw [(K (F := F)).scopedBufs_V facts d _ _, SparseCore.Cfg.scopedSems0_V (Val := Elt F) d _ _]
  have hw := no_lt i
  have hq := q.isLt
  have key := fun f4 => callTile d ((i 0).castLE hcore0) ((i 1).castLE hsub0) (Memref.whole main_v0_scv) (Memref.whole main_arg1_scv) arg4 arg5 arg6 arg7 arg8 harg8 arg9 harg9
    arg10 arg11 arg12 arg13 r0 r1 (toks m d) (table m d) (4096 * q.val) (no i) v off1 h1 cond off2 h2 off3 h3 off4 h4 hA (by omega) (part fullShare (no i)) O W
    (tokBuf m d) (m (tabLoc d)) f4
    (fun y => by
      have : y = posIx (y 0).val := by
        funext a
        match a with
        | ⟨0, _⟩ => exact Fin.ext (Nat.mod_eq_of_lt (y 0).isLt).symm
      show tokBuf m d y = tokBuf m d (posIx (y 0).val)
      rw [← this])
    (fun _ => rfl) (lift (outFin m q d)) (fun y => hlift _ y) RB RS hB hS
  rw [set_rowsOf arg4 hA.h3 h3, set_rowsOf arg4 hA.h4 h4] at key
  have key' := key (lift (outInit m q d))
  unfold tileRes
  rw [hout, hout, hout, hout]
  simp only [Memref.view_whole, View.set_whole] at key'
  iintro ⟨#Hlv, -, Hg, HB, HS, HO⟩
  ihave Hmw := (show levAts (K (F := F)).L (K (F := F)).lev ⊢ Transfers.MayWaits (V d ((i 0).castLE hcore0) ((i 1).castLE hsub0)) (default : HIx 4) O from
    (K (F := F)).mayWaits_none (thr := V d ((i 0).castLE hcore0) ((i 1).castLE hsub0)) hO) $$ Hlv
  iapply key' $$ [Hmw Hg HB HS HO]
  isplitl [Hmw]; · iexact Hmw
  isplitl [Hg]; · iexact Hg
  isplitl [HB]; · iexact HB
  isplitl [HS] <;> iassumption

/-- What a tile runs for call 0: the body at the tile's coordinates, on the call's buffers and semaphores. -/
theorem vector0 (c : Fin τ.nSC) (s : Fin τ.nSub) :
    defs₀ (F := F) (.scVector c s) 0 ()
      = SparseCore.onTile hcore0 hsub0 (fun c s => cc0__sc_body (at2 c s) (Memref.whole main_v0_scv) (Memref.isWhole_whole _) (Memref.whole main_arg1_scv) (Memref.isWhole_whole _)
          (Memref.whole main_v2_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8 cc0_scoped0 cc0_scoped1) ⟨⟩ c s := rfl
/-- What a tile runs for call 1: the body at the tile's coordinates, on the call's buffers and semaphores. -/
theorem vector1 (c : Fin τ.nSC) (s : Fin τ.nSub) :
    defs₀ (F := F) (.scVector c s) 1 ()
      = SparseCore.onTile hcore1 hsub1 (fun c s => cc1__sc_body (at2 c s) (Memref.whole main_v0_scv) (Memref.isWhole_whole _) (Memref.whole main_arg1_scv) (Memref.isWhole_whole _)
          (Memref.whole main_v3_scv) (Memref.isWhole_whole _) (Memref.whole cc1_scratch0) (Memref.isWhole_whole _) (Memref.whole cc1_scratch1) (Memref.isWhole_whole _)
          (Memref.whole cc1_scratch2) (Memref.isWhole_whole _) (Memref.whole cc1_scratch3) (Memref.isWhole_whole _) (Memref.whole cc1_scratch4) (Memref.isWhole_whole _)
          cc1_scratch5 cc1_scratch6 cc1_scratch7 cc1_scratch8 cc1_scoped0 cc1_scoped1) ⟨⟩ c s := rfl
/-- What a tile runs for call 2: the body at the tile's coordinates, on the call's buffers and semaphores. -/
theorem vector2 (c : Fin τ.nSC) (s : Fin τ.nSub) :
    defs₀ (F := F) (.scVector c s) 2 ()
      = SparseCore.onTile hcore2 hsub2 (fun c s => cc2__sc_body (at2 c s) (Memref.whole main_v0_scv) (Memref.isWhole_whole _) (Memref.whole main_arg1_scv) (Memref.isWhole_whole _)
          (Memref.whole main_v4_scv) (Memref.isWhole_whole _) (Memref.whole cc2_scratch0) (Memref.isWhole_whole _) (Memref.whole cc2_scratch1) (Memref.isWhole_whole _)
          (Memref.whole cc2_scratch2) (Memref.isWhole_whole _) (Memref.whole cc2_scratch3) (Memref.isWhole_whole _) (Memref.whole cc2_scratch4) (Memref.isWhole_whole _)
          cc2_scratch5 cc2_scratch6 cc2_scratch7 cc2_scratch8 cc2_scoped0 cc2_scoped1) ⟨⟩ c s := rfl
/-- What a tile runs for call 3: the body at the tile's coordinates, on the call's buffers and semaphores. -/
theorem vector3 (c : Fin τ.nSC) (s : Fin τ.nSub) :
    defs₀ (F := F) (.scVector c s) 3 ()
      = SparseCore.onTile hcore3 hsub3 (fun c s => cc3__sc_body (at2 c s) (Memref.whole main_v0_scv) (Memref.isWhole_whole _) (Memref.whole main_arg1_scv) (Memref.isWhole_whole _)
          (Memref.whole main_v5_scv) (Memref.isWhole_whole _) (Memref.whole cc3_scratch0) (Memref.isWhole_whole _) (Memref.whole cc3_scratch1) (Memref.isWhole_whole _)
          (Memref.whole cc3_scratch2) (Memref.isWhole_whole _) (Memref.whole cc3_scratch3) (Memref.isWhole_whole _) (Memref.whole cc3_scratch4) (Memref.isWhole_whole _)
          cc3_scratch5 cc3_scratch6 cc3_scratch7 cc3_scratch8 cc3_scoped0 cc3_scoped1) ⟨⟩ c s := rfl

/-- Every tile meets its obligation in call 0. -/
theorem tileObl0 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector0]; simp only [SparseCore.onTile, hci, and_self, ↓reduceDIte, body0_eq]
  exact (task m d (at2 ⟨_, hci.1⟩ ⟨_, hci.2⟩) 0 (Memref.whole main_v2_scv) (Memref.whole cc0_scratch0) (Memref.whole cc0_scratch1) (Memref.whole cc0_scratch2)
    (Memref.whole cc0_scratch3) (Memref.isWhole_whole _) (Memref.whole cc0_scratch4) (Memref.isWhole_whole _) cc0_scratch5 cc0_scratch6 cc0_scratch7 cc0_scratch8 cc0_scoped0 cc0_scoped1
    _ _ _ _ _ _ _ _ _ _ (at0 _) (fun f => f) (fun _ _ => rfl)
    (fun S f => by rw [show S.map (Memref.whole main_v2_scv).view.emb = S from Finset.map_refl]; rfl)
    _ _ ((ownBufs_take d _ _ [cc0_scratch0, cc0_scratch1, cc0_scratch2, cc0_scratch3, cc0_scratch4] (by decide) (by simp; exact ⟨rfl, rfl, rfl, rfl, rfl⟩)).trans
      (by simp only [Memref.view_whole, View.set_whole]; rfl))
    ((ownSems0_take d _ _ [.dma cc0_scratch5.sem, .dma cc0_scratch6.sem, .dma cc0_scratch7.sem, .dma cc0_scratch8.sem, .dma cc0_scoped0.sem, .dma cc0_scoped1.sem] (by decide) (by decide)).trans rfl)
    O W hO).trans (wp_mono frame _ _ fun _ => obl_post)

/-- Every tile meets its obligation in call 1. -/
theorem tileObl1 : (K (F := F)).TileObl (D (F := F)) 𝒱 (P m) v₀ 1 := by
  intro d c i O W hO _ _
  simp only [show (P m).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [vector1]; simp only [SparseCore.onTile, hci, and_self, ↓reduceDIte, body1_eq]
  exact (task m d (at2 ⟨_, hci.1⟩ ⟨_, hci.2⟩) 1 (Memref.whole main_v3_scv) (Memref.whole cc1_scratch0) (Memref.whole cc1_scratch1) (Memref.whole cc1_scratch2)
    (Memref.whole cc1_scratch3) (Memref.isWhole_whole _) (Memref.whole cc1_scratch4) (Memref.isWhole_whole _) cc1_scratch5 cc1_scratch6 cc1_scratch7 cc1_scratch8 cc1_scoped0 cc1_scoped1
    _ _ _ _ _ _ _ _ _ _ (at1 _) (fun f => f) (fun _ _ => rfl)
    (fun S f => by rw [show S.map (Memref.whole main_v3_scv).view.emb = S from Finset.map_refl]; rfl)
    _ _ ((ownBufs_take d _ _ [cc1_scratch0, cc1_scratch1, cc1_scratch2, cc1_scratch3, cc1_scratch4] (by decide) (by simp; exact ⟨rfl, rfl, rfl, rfl, rfl⟩)).trans
      (by simp only [Memref.view_whole, View.set_whole]; rfl))
    ((ownSems0_take d _ _ [.dma cc1_scratch5.sem, .dma cc1_scratch6.sem, .dma cc1_scratch7.sem, .dma cc1_scratch8.sem, .dma cc1_scoped0.sem, .dma cc1_scoped1.sem] (by decide) (by decide)).trans rfl)
    O W hO).trans (wp_mono frame _ _ fun _ => obl_post)

/-- Every tile meets its obligation in call 2. -/
theorem tileObl2 : (K (F := F)).TileObl (D (F := F)) 𝒱 (P m) v₀ 2 := by
  intro d c i O W hO _ _
  simp only [show (P m).ox = fun _ _ => 0 from rfl, add_zero]
  have hci : ((K (F := F)).core 2 c).val < grid0.bound 0 ∧ ((K (F := F)).sub 2 i).val < grid0.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [vector2]; simp only [SparseCore.onTile, hci, and_self, ↓reduceDIte, body2_eq]
  exact (task m d (at2 ⟨_, hci.1⟩ ⟨_, hci.2⟩) 2 (Memref.whole main_v4_scv) (Memref.whole cc2_scratch0) (Memref.whole cc2_scratch1) (Memref.whole cc2_scratch2)
    (Memref.whole cc2_scratch3) (Memref.isWhole_whole _) (Memref.whole cc2_scratch4) (Memref.isWhole_whole _) cc2_scratch5 cc2_scratch6 cc2_scratch7 cc2_scratch8 cc2_scoped0 cc2_scoped1
    _ _ _ _ _ _ _ _ _ _ (at2' _) (fun f => f) (fun _ _ => rfl)
    (fun S f => by rw [show S.map (Memref.whole main_v4_scv).view.emb = S from Finset.map_refl]; rfl)
    _ _ ((ownBufs_take d _ _ [cc2_scratch0, cc2_scratch1, cc2_scratch2, cc2_scratch3, cc2_scratch4] (by decide) (by simp; exact ⟨rfl, rfl, rfl, rfl, rfl⟩)).trans
      (by simp only [Memref.view_whole, View.set_whole]; rfl))
    ((ownSems0_take d _ _ [.dma cc2_scratch5.sem, .dma cc2_scratch6.sem, .dma cc2_scratch7.sem, .dma cc2_scratch8.sem, .dma cc2_scoped0.sem, .dma cc2_scoped1.sem] (by decide) (by decide)).trans rfl)
    O W hO).trans (wp_mono frame _ _ fun _ => obl_post)

/-- Every tile meets its obligation in call 3. -/
theorem tileObl3 : (K (F := F)).TileObl (D (F := F)) 𝒱 (P m) v₀ 3 := by
  intro d c i O W hO _ _
  simp only [show (P m).ox = fun _ _ => 0 from rfl, add_zero]
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [vector3]; simp only [SparseCore.onTile, hci, and_self, ↓reduceDIte, body3_eq]
  exact (task m d (at2 ⟨_, hci.1⟩ ⟨_, hci.2⟩) 3 (Memref.whole main_v5_scv) (Memref.whole cc3_scratch0) (Memref.whole cc3_scratch1) (Memref.whole cc3_scratch2)
    (Memref.whole cc3_scratch3) (Memref.isWhole_whole _) (Memref.whole cc3_scratch4) (Memref.isWhole_whole _) cc3_scratch5 cc3_scratch6 cc3_scratch7 cc3_scratch8 cc3_scoped0 cc3_scoped1
    _ _ _ _ _ _ _ _ _ _ (at3 _) (fun f => f) (fun _ _ => rfl)
    (fun S f => by rw [show S.map (Memref.whole main_v5_scv).view.emb = S from Finset.map_refl]; rfl)
    _ _ ((ownBufs_take d _ _ [cc3_scratch0, cc3_scratch1, cc3_scratch2, cc3_scratch3, cc3_scratch4] (by decide) (by simp; exact ⟨rfl, rfl, rfl, rfl, rfl⟩)).trans
      (by simp only [Memref.view_whole, View.set_whole]; rfl))
    ((ownSems0_take d _ _ [.dma cc3_scratch5.sem, .dma cc3_scratch6.sem, .dma cc3_scratch7.sem, .dma cc3_scratch8.sem, .dma cc3_scoped0.sem, .dma cc3_scoped1.sem] (by decide) (by decide)).trans rfl)
    O W hO).trans (wp_mono frame _ _ fun _ => obl_post)

end Cert.Proof.Calls

end
-- ==== Proof.Deal.lean ====
/-
  What @main's steps on the TensorCore do to the buffers they name: the host operations, and the four SparseCore calls with their
  operands dealt to the thirty-two tiles and taken back.
-/
module

public import proofs.«01_k».proof.Proof.Calls

@[expose] public section

set_option maxRecDepth 16384

noncomputable section

namespace Cert.Proof.Deal

open Cert.KernelIdeal Cert.KernelIdeal.Gen Cert.Proof Cert.Proof.Tile Cert.Proof.Call Cert.Proof.Calls
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

/-! ## Host operations -/

include m in
/-- A host operation from `x` to `y`: `y` comes to hold `g` of what `x` holds. -/
theorem host {d : Dev nD} {x y : Ref sig .tc} (op : HloOp τ sig (Elt F)) (hxy : x ≠ y)
    (hb : op.bufs = {Proc.devRef .tc x, Proc.devRef .tc y}) (hf : op.fresh = ∅)
    (a : Buf (Elt F) ((SparseCore.T d).loc x)) (b g : Buf (Elt F) ((SparseCore.T d).loc y))
    (hx : ∀ W : Valuation τ sig (Elt F), op.result W (Proc.devRef .tc x) = W (Proc.devRef .tc x))
    (hy : ∀ W : Valuation τ sig (Elt F), W (Proc.devRef .tc x) = a → op.result W (Proc.devRef .tc y) = g)
    (Q : PUnit → sProp (MM F)) :
    iprop(boundary (SparseCore.T d) ∗ ((SparseCore.T d).loc x ↦{fullShare} a) ∗ ((SparseCore.T d).loc y ↦{fullShare} b)
        ∗ ((boundary (SparseCore.T d) ∗ ((SparseCore.T d).loc x ↦{fullShare} a) ∗ ((SparseCore.T d).loc y ↦{fullShare} g)) -∗ Q ⟨⟩))
      ⊢ wp (M := MM F) frame (wpE ((K (F := F)).defs (D (F := F))) 𝒱 (SparseCore.T d) none) Set.univ (hlo rfl op fun _ => .ret ⟨⟩) Q := by
  have hne : (Proc.devRef .tc x : DevRef τ sig) ≠ Proc.devRef .tc y := StableHlo.devRef_ne_of_ne hxy
  let W₀ : Valuation τ sig (Elt F) := fun r => m (d, r)
  let W : Valuation τ sig (Elt F) := Function.update (Function.update W₀ (Proc.devRef .tc x) a) (Proc.devRef .tc y) b
  have hWx : W (Proc.devRef .tc x) = a := by
    show Function.update (Function.update W₀ (Proc.devRef .tc x) a) (Proc.devRef .tc y) b (Proc.devRef .tc x) = a
    rw [Function.update_of_ne hne, Function.update_self]
  have hWy : W (Proc.devRef .tc y) = b := Function.update_self ..
  have e (V : Valuation τ sig (Elt F)) : (bigSep op.bufs fun r => (((SparseCore.T d : Thread nD τ).1, r) ↦{fullShare} V r : sProp (MM F)))
      = iprop(((SparseCore.T d).loc x ↦{fullShare} V (Proc.devRef .tc x)) ∗ ((SparseCore.T d).loc y ↦{fullShare} V (Proc.devRef .tc y))) := by
    rw [hb, SparseCore.bigSep_insert' (by rw [Finset.mem_singleton]; exact hne), bigSep_singleton]
  have e1 := e W
  have e2 := e (op.result W)
  rw [hWx, hWy] at e1
  rw [hx W, hWx, hy W hWx] at e2
  iintro ⟨Hb, Hx, Hy, Hk⟩
  iapply (wp_hlo 𝒱 (SparseCore.T d) none Set.univ (op := op) (q := fun _ => fullShare) (F := W) (fun _ _ => rfl) hf) $$ [Hb Hx Hy]
  · isplitl [Hb]; · iexact Hb
    iapply (Entails.of_eq e1.symm)
    isplitl [Hx] <;> iassumption
  iintro ⟨Hb, H⟩
  ihave H' := (Entails.of_eq e2) $$ H
  icases H' with ⟨Hx, Hy⟩
  rw [wp_ret]
  imodintro
  iapply Hk
  isplitl [Hb]; · iexact Hb
  isplitl [Hx] <;> iassumption

/-! ## A call's operands, dealt to its tiles -/

omit [FloatOps F] in
/-- Thirty-two tiles, as two SparseCores of sixteen. -/
theorem cores (g : ℕ → sProp (MM F)) :
    (bigSep Finset.univ fun c : Fin 2 => bigSep Finset.univ fun i : Fin 16 => g (2 * i.val + c.val)) = bigSep (Finset.range 32) g := by
  have hr : Finset.range 32 = (Finset.univ : Finset (Fin 32)).map Fin.valEmbedding := by
    ext a
    rw [Finset.mem_range, Finset.mem_map]
    exact ⟨fun h => ⟨⟨a, h⟩, Finset.mem_univ _, rfl⟩, fun ⟨b, _, hb⟩ => hb ▸ b.isLt⟩
  rw [← bigSep_univ_prod (fun p : Fin 2 × Fin 16 => g (2 * p.2.val + p.1.val)), hr, bigSep_map,
    bigSep_univ_equiv ((Equiv.prodComm (Fin 2) (Fin 16)).trans finProdFinEquiv) (fun w : Fin 32 => g (Fin.valEmbedding w))]
  refine bigSep_congr fun p _ => congrArg g ?_
  show 2 * p.2.val + p.1.val = p.1.val + 2 * p.2.val
  omega

omit [FloatOps F] in
/-- A whole buffer is its bands, two for each tile. -/
theorem bands {ℓ : Loc nD τ sig} (A B : ℕ → Finset (Idx ℓ)) (n : ℕ) (f : Buf (Elt F) ℓ)
    (hu : (Finset.range n).biUnion (fun w => A w ∪ B w) = Finset.univ)
    (hd : ∀ w, Disjoint (A w) (B w)) (hdd : ∀ w ∈ Finset.range n, ∀ w' ∈ Finset.range n, w ≠ w' → Disjoint (A w ∪ B w) (A w' ∪ B w')) :
    (ℓ ↦{fullShare} f : sProp (MM F)) = bigSep (Finset.range n) fun w => iprop((ℓ ↦[A w]{fullShare} f) ∗ ℓ ↦[B w]{fullShare} f) := by
  rw [← hu, pointsTo_biUnion _ _ hdd]
  exact bigSep_congr fun w _ => Entails.antisymm (pointsTo_union (hd w)).1 (pointsTo_union (hd w)).2

/-- A tile's two bands do not meet. -/
theorem band_disj (w : ℕ) : Disjoint (band 0 w) (band 1 w) := by
  rw [Finset.disjoint_left]
  intro y h h'
  rw [mem_band] at h h'
  omega

/-- The tiles' bands are the whole result. -/
theorem band_cover : (Finset.range 32).biUnion (fun w => band 0 w ∪ band 1 w) = Finset.univ := by
  ext y
  have h0 : (y 0).val < 2 := (y 0).isLt
  have h1 : (y 1).val < 4096 := (y 1).isLt
  simp only [Finset.mem_biUnion, Finset.mem_range, Finset.mem_union, mem_band, Finset.mem_univ, iff_true]
  exact ⟨(y 1).val / 128, by omega, by omega⟩

/-- Two tiles' bands do not meet. -/
theorem band_sep (w : ℕ) (_ : w ∈ Finset.range 32) (w' : ℕ) (_ : w' ∈ Finset.range 32) (h : w ≠ w') :
    Disjoint (band 0 w ∪ band 1 w) (band 0 w' ∪ band 1 w') := by
  rw [Finset.disjoint_left]
  intro y h h'
  simp only [Finset.mem_union, mem_band] at h h'
  omega

/-- The result of a call, whole, is its tiles' bands. -/
theorem out_split (q : Fin 4) (d : Dev nD) (f : S2x4096x128.Idx → Elt F .f32) :
    outPts q d Finset.univ f = bigSep (Finset.range 32) fun w => iprop(outPts q d (band 0 w) f ∗ outPts q d (band 1 w) f) :=
  match q with
  | 0 => bands (ℓ := (SparseCore.T d).loc main_v2) (band 0) (band 1) 32 f band_cover band_disj band_sep
  | 1 => bands (ℓ := (SparseCore.T d).loc main_v3) (band 0) (band 1) 32 f band_cover band_disj band_sep
  | 2 => bands (ℓ := (SparseCore.T d).loc main_v4) (band 0) (band 1) 32 f band_cover band_disj band_sep
  | 3 => bands (ℓ := (SparseCore.T d).loc main_v5) (band 0) (band 1) 32 f band_cover band_disj band_sep

/-- A call's operands whole are what its SparseCores hold, and what is left of the tokens and the table. -/
theorem deal (q : Fin 4) (d : Dev nD) (f : S2x4096x128.Idx → Elt F .f32) :
    iprop((tokLoc d ↦{fullShare} tokBuf m d) ∗ (tabLoc d ↦{fullShare} m (tabLoc d)) ∗ outPts q d Finset.univ f)
      = iprop((bigSep Finset.univ fun c : Fin ((K (F := F)).nCore q) => coreRes m q d f c.val)
          ∗ (tokLoc d ↦{rest fullShare 32} tokBuf m d) ∗ tabLoc d ↦{rest fullShare 32} m (tabLoc d)) := by
  have hc : (bigSep Finset.univ fun c : Fin ((K (F := F)).nCore q) => coreRes m q d f c.val)
      = bigSep (Finset.range 32) (tileRes m q d f) := by
    match q with
    | 0 => exact cores _
    | 1 => exact cores _
    | 2 => exact cores _
    | 3 => exact cores _
  rw [hc]
  have ht : bigSep (Finset.range 32) (tileRes m q d f)
      = iprop((bigSep (Finset.range 32) fun w => tokLoc d ↦{part fullShare w} tokBuf m d)
        ∗ (bigSep (Finset.range 32) fun w => tabLoc d ↦{part fullShare w} m (tabLoc d)) ∗ outPts q d Finset.univ f) := by
    rw [out_split, ← bigSep_sep', ← bigSep_sep']
    rfl
  rw [ht, pointsTo_parts Finset.univ fullShare (tokBuf m d) 32, pointsTo_parts Finset.univ fullShare (m (tabLoc d)) 32]
  have l : ∀ A B A' B' C : sProp (MM F), iprop((A ∗ A') ∗ (B ∗ B') ∗ C) ⊢ iprop((A ∗ B ∗ C) ∗ A' ∗ B') := fun A B A' B' C => by
    iintro ⟨⟨HA, HA'⟩, ⟨HB, HB'⟩, HC⟩
    isplitl [HA HB HC]
    · isplitl [HA]; · iexact HA
      isplitl [HB] <;> iassumption
    isplitl [HA'] <;> iassumption
  have r : ∀ A B A' B' C : sProp (MM F), iprop((A ∗ B ∗ C) ∗ A' ∗ B') ⊢ iprop((A ∗ A') ∗ (B ∗ B') ∗ C) := fun A B A' B' C => by
    iintro ⟨⟨HA, HB, HC⟩, HA', HB'⟩
    isplitl [HA HA']
    · isplitl [HA] <;> iassumption
    isplitl [HB HB']
    · isplitl [HB] <;> iassumption
    iexact HC
  exact Entails.antisymm (l _ _ _ _ _) (r _ _ _ _ _)

/-- A SparseCore call of @main: its result comes to hold the two table rows of each position. -/
theorem call (κ : GSem nD τ sig → ℕ) (d : Dev nD) (q : Fin 4) (Φ : PUnit → sProp (MM F)) :
    iprop((K (F := F)).ctx EH (P m) κ ∗ (K (F := F)).tcSt EH d q.val
        ∗ ((tokLoc d ↦{fullShare} tokBuf m d) ∗ (tabLoc d ↦{fullShare} m (tabLoc d)) ∗ outPts q d Finset.univ (outInit m q d))
        ∗ (((K (F := F)).tcSt EH d (q.val + 1)
            ∗ ((tokLoc d ↦{fullShare} tokBuf m d) ∗ (tabLoc d ↦{fullShare} m (tabLoc d)) ∗ outPts q d Finset.univ (outFin m q d))) -∗ Φ ⟨⟩))
      ⊢ wp (M := MM F) frame (wpE ((K (F := F)).defs (D (F := F))) 𝒱 (SparseCore.T d) none) Set.univ ((K (F := F)).run d q) Φ := by
  rw [deal m q d (outInit m q d), deal m q d (outFin m q d)]
  iintro ⟨#Hctx, Hst, ⟨Hc, Ht, He⟩, Hk⟩
  iapply ((K (F := F)).wp_run (D (F := F)) 𝒱 (EH := EH) (P := P m) κ d q) $$ [Hst Hc Ht He Hk]
  isplitr; · iexact Hctx
  isplitl [Hst]; · iexact Hst
  isplitl [Hc]; · iexact Hc
  iintro ⟨Hst, Hdn⟩
  iapply Hk
  isplitl [Hst]; · iexact Hst
  isplitl [Hdn]; · iexact Hdn
  isplitl [Ht] <;> iassumption

end Cert.Proof.Deal

end
-- ==== Proof.Regions.lean ====
/-
  The four pallas_calls on the TensorCore: what one point computes, and what a whole call leaves in its result.
-/
module

public import proofs.«01_k».proof.Proof.Calls
public import Idealize.ShloMosaic.Lib.Pipeline.Value
public import Idealize.ShloMosaic.Lib.Pipeline.RegionArrays

@[expose] public section

noncomputable section

namespace Cert.Proof.Regions

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

/-- What one call of the TensorCore's body computes from its three blocks. -/
def mmVal (h : S2x512x128.Idx → Elt F .f32) (w : S1024x128.Idx → Elt F .f32) (s : S1.Idx → Elt F .f32) : S512x1024.Idx → Elt F .f32 :=
  k4_pay1 (View.ld h (Rect.unit (s := S2x512x128) ![0, 0, 0] S1x512x128.size inb_S2x512x128_S1x512x128_0_0_0))
    (View.ld h (Rect.unit (s := S2x512x128) ![1, 0, 0] S1x512x128.size inb_S2x512x128_S1x512x128_1_0_0)) w (s fun a => ⟨0, by fin_cases a; decide⟩)

/-- The TensorCore's body on whole blocks: it leaves its three inputs as they were and `mmVal` of them in its result's block. -/
theorem mm_spec (c : Dev nD) (j : grid4.Coords)
    (a1 : Memref sig .tc .smem S1 .f32) (h1 : a1.IsWhole) (a2 : Memref sig .tc .vmem S2x512x128 .f32) (h2 : a2.IsWhole)
    (a3 : Memref sig .tc .vmem S1024x128 .f32) (h3 : a3.IsWhole) (a4 : Memref sig .tc .vmem S512x1024 .f32) (h4 : a4.IsWhole)
    (s : S1.Idx → Elt F .f32) (h : S2x512x128.Idx → Elt F .f32) (w : S1024x128.Idx → Elt F .f32) (o : S512x1024.Idx → Elt F .f32)
    (Q : PUnit → sProp (MM F)) :
    iprop(owns (c.tc : Thread nD τ) a1 fullShare s ∗ owns (c.tc : Thread nD τ) a2 fullShare h ∗ owns (c.tc : Thread nD τ) a3 fullShare w
        ∗ owns (c.tc : Thread nD τ) a4 fullShare o
        ∗ ((owns (c.tc : Thread nD τ) a1 fullShare s ∗ owns (c.tc : Thread nD τ) a2 fullShare h ∗ owns (c.tc : Thread nD τ) a3 fullShare w
            ∗ owns (c.tc : Thread nD τ) a4 fullShare (mmVal h w s)) -∗ Q ⟨⟩))
      ⊢ wp (M := MM F) frame (wpE (defs₀ (F := F)) 𝒱₀ (c.tc : Thread nD τ) none) Set.univ (cc4__mm_first_body j a1 h1 a2 h2 a3 h3 a4 h4) Q := by
  have hz : (![0, 0] : Fin 2 → Nat) = fun _ => 0 := funext fun a => by fin_cases a <;> rfl
  rw [cc4__mm_first_body_eq_skeleton]
  unfold cc4__mm_first_body_skel
  unfold owns
  iintro ⟨⟨%f1, %e1, H1⟩, ⟨%f2, %e2, H2⟩, ⟨%f3, %e3, H3⟩, ⟨%f4, -, H4⟩, Hk⟩
  sl_exec!
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _
  isplitr; swap; · iexact H4
  ipureintro
  unfold mm_spec.sl.H4_1
  rw [View.read_writes_junk_eq_canon, View.canon_unit_zero hz]
  subst e1 e2 e3
  unfold mmVal
  congr 1
  · exact View.ld_unit_zero hz _ _
  · unfold mm_spec.sl.r
    rw [View.readAt_eq_ld]
    refine congrArg (a1.view.read (Elt F) f1) (funext fun a => Fin.ext ?_)
    have h : ∀ x : S1.Idx, (x a).val = 0 := fun x => by
      have := (x a).isLt; have : S1.size a = 1 := by fin_cases a; rfl
      omega
    exact h _

/-- The same at a point of a pipeline, whatever the pipeline keeps beside the blocks. -/
theorem mm_point (c : Dev nD) (j : grid4.Coords)
    (a1 : Memref sig .tc .smem S1 .f32) (h1 : a1.IsWhole) (a2 : Memref sig .tc .vmem S2x512x128 .f32) (h2 : a2.IsWhole)
    (a3 : Memref sig .tc .vmem S1024x128 .f32) (h3 : a3.IsWhole) (a4 : Memref sig .tc .vmem S512x1024 .f32) (h4 : a4.IsWhole)
    (s : S1.Idx → Elt F .f32) (h : S2x512x128.Idx → Elt F .f32) (w : S1024x128.Idx → Elt F .f32)
    (b1 : (S1.Idx → Elt F .f32) → S1.Idx → Elt F .f32) (b2 : (S2x512x128.Idx → Elt F .f32) → S2x512x128.Idx → Elt F .f32)
    (b3 : (S1024x128.Idx → Elt F .f32) → S1024x128.Idx → Elt F .f32) (b4 : (S512x1024.Idx → Elt F .f32) → S512x1024.Idx → Elt F .f32)
    (e1 : ∀ d, b1 d = s) (e2 : ∀ d, b2 d = h) (e3 : ∀ d, b3 d = w) (Φ O : sProp (MM F))
    (p : Prog (TpuEff nD τ sig (Elt F) Λ₀ .tc) PUnit) (hp : p = cc4__mm_first_body j a1 h1 a2 h2 a3 h3 a4 h4) :
    iprop(Φ ∗ O ∗ (∃ d, owns (c.tc : Thread nD τ) a1 fullShare (b1 d)) ∗ (∃ d, owns (c.tc : Thread nD τ) a2 fullShare (b2 d))
        ∗ (∃ d, owns (c.tc : Thread nD τ) a3 fullShare (b3 d)) ∗ (∃ d, owns (c.tc : Thread nD τ) a4 fullShare (b4 d)))
      ⊢ wp (M := MM F) frame (wpE (defs₀ (F := F)) 𝒱₀ (c.tc : Thread nD τ) none) Set.univ p
          fun _ => iprop(Φ ∗ O ∗ owns (c.tc : Thread nD τ) a1 fullShare s ∗ owns (c.tc : Thread nD τ) a2 fullShare h
            ∗ owns (c.tc : Thread nD τ) a3 fullShare w ∗ owns (c.tc : Thread nD τ) a4 fullShare (mmVal h w s)) := by
  subst hp
  simp only [e1, e2, e3]
  iintro ⟨HΦ, HO, ⟨%d1, H1⟩, ⟨%d2, H2⟩, ⟨%d3, H3⟩, ⟨%d4, H4⟩⟩
  iapply (mm_spec c j a1 h1 a2 h2 a3 h3 a4 h4 s h w (b4 d4))
  isplitl [H1]; · iexact H1
  isplitl [H2]; · iexact H2
  isplitl [H3]; · iexact H3
  isplitl [H4]; · iexact H4
  iintro ⟨H1, H2, H3, H4⟩
  isplitl [HΦ]; · iexact HΦ
  isplitl [HO]; · iexact HO
  isplitl [H1]; · iexact H1
  isplitl [H2]; · iexact H2
  isplitl [H3]; · iexact H3
  iexact H4

/-- The pipelines' configurations take no table. -/
abbrev adm : (p : Fin 4) → (pcfgs (F := F) p).Adm := fun p => (cfgs p).toPCfg_adm

/-- The pairs the TensorCore may have recorded by the time the pipelines run. -/
def recs (c : Dev nD) : Set (SemLoc sig × HIx 4) := {p | (K (F := F)).lev ((c.tc : Thread nD τ), p.1) p.2 ≤ 8 * (inferInstance : SparseCore.Cfg.Blocks 4 4).fst 4}

/-- An index of a slab, by its coordinates. -/
def slabIx (a : Fin 2) (b : Fin 4096) (c : Fin 128) : S2x4096x128.Idx :=
  fun | 0 => a | 1 => b | 2 => c | ⟨_ + 3, h⟩ => absurd h (Nat.not_lt.2 (Nat.le_add_left _ _))

/-- An index of a block of the result, by its coordinates. -/
def outIx (a : Fin 512) (b : Fin 1024) : S512x1024.Idx :=
  fun | 0 => a | 1 => b | ⟨_ + 2, h⟩ => absurd h (Nat.not_lt.2 (Nat.le_add_left _ _))

/-- Two indices of a slab with equal coordinates are equal. -/
theorem slab_ext {x y : S2x4096x128.Idx} (h0 : (x 0).val = (y 0).val) (h1 : (x 1).val = (y 1).val) (h2 : (x 2).val = (y 2).val) : x = y :=
  funext fun | ⟨0, _⟩ => Fin.ext h0 | ⟨1, _⟩ => Fin.ext h1 | ⟨2, _⟩ => Fin.ext h2

/-- Block `t` of a slab's rows: 512 positions of both gathered arrays. -/
def hblk (h : S2x4096x128.Idx → Elt F .f32) (t : ℕ) : S2x512x128.Idx → Elt F .f32 :=
  fun x => h (slabIx (x 0) ⟨(512 * (t % 8) + (x 1).val) % 4096, Nat.mod_lt _ (by decide)⟩ (x 2))

/-- What a slab's pipeline computes at an index of the result: from the position's block of the slab. -/
def slabOut (h : S2x4096x128.Idx → Elt F .f32) (w : S1024x128.Idx → Elt F .f32) (s : S1.Idx → Elt F .f32) : S16384x1024.Idx → Elt F .f32 :=
  fun i => mmVal (hblk h ((i 0).val / 512)) w s
    (outIx ⟨(i 0).val % 512, Nat.mod_lt _ (by decide)⟩ (i 1))

/-- The result array after slab `k`'s pipeline: the slab's rows computed, the others as they were. -/
def slabStep (k : ℕ) (h : S2x4096x128.Idx → Elt F .f32) (w : S1024x128.Idx → Elt F .f32) (s : S1.Idx → Elt F .f32)
    (y : S16384x1024.Idx → Elt F .f32) : S16384x1024.Idx → Elt F .f32 :=
  fun i => if 4096 * k ≤ (i 0).val ∧ (i 0).val < 4096 * (k + 1) then slabOut h w s i else y i

/-- A block's element is the slab's result at its place in the array. -/
theorem slab_at (k t : ℕ) (ht : t < 8) (h : S2x4096x128.Idx → Elt F .f32) (w : S1024x128.Idx → Elt F .f32) (s : S1.Idx → Elt F .f32)
    (i : S16384x1024.Idx) (x : S512x1024.Idx) (e0 : (i 0).val = (t + 8 * k) * 512 + (x 0).val) (e1 : (i 1).val = (x 1).val) :
    mmVal (hblk h t) w s x = slabOut h w s i := by
  have hx : (x 0).val < 512 := (x 0).isLt
  have a : (i 0).val / 512 = t + 8 * k := by omega
  have b : (i 0).val % 512 = (x 0).val := by omega
  have c : hblk h ((i 0).val / 512) = hblk h t := by

    have hm : (t + 8 * k) % 8 = t % 8 := by omega
    rw [a]
    refine funext fun z => congrArg h (slab_ext rfl ?_ rfl)
    show (512 * ((t + 8 * k) % 8) + (z 1).val) % 4096 = (512 * (t % 8) + (z 1).val) % 4096
    rw [hm]
  unfold slabOut
  rw [c]
  refine congrArg (mmVal (hblk h t) w s) (Shape.idx_ext₂ ?_ ?_)
  · exact b.symm
  · exact e1.symm

/-- A block read out of a slab at block index `(0, t, 0)` is block `t`. -/
theorem hblk_of (h : S2x4096x128.Idx → Elt F .f32) (t : ℕ) (ht : t < 8) (e : S2x512x128.Idx → S2x4096x128.Idx) (ix : Fin 3 → ℕ)
    (e0 : ∀ x, (e x 0).val = ix 0 * 2 + (x 0).val) (e1 : ∀ x, (e x 1).val = ix 1 * 512 + (x 1).val)
    (e2 : ∀ x, (e x 2).val = ix 2 * 128 + (x 2).val) (hix : ix 0 = 0 ∧ ix 1 = t ∧ ix 2 = 0) : (fun x => h (e x)) = hblk h t := by
  obtain ⟨i0, i1, i2⟩ := hix
  rw [i0] at e0; rw [i1] at e1; rw [i2] at e2
  funext x
  have hx : (x 1).val < 512 := (x 1).isLt
  refine congrArg h (slab_ext ?_ ?_ ?_)
  · rw [e0]; exact Nat.zero_add _
  · rw [e1]; show t * 512 + (x 1).val = (512 * (t % 8) + (x 1).val) % 4096; omega
  · rw [e2]; exact Nat.zero_add _

/-- A block of the result at block index `(t + 8 k, 0)` holds the slab's result at its places. -/
theorem slabOut_of (k t : ℕ) (ht : t < 8) (h : S2x4096x128.Idx → Elt F .f32) (w : S1024x128.Idx → Elt F .f32) (s : S1.Idx → Elt F .f32)
    (e : S512x1024.Idx → S16384x1024.Idx) (ix : Fin 2 → ℕ) (e0 : ∀ x, (e x 0).val = ix 0 * 512 + (x 0).val)
    (e1 : ∀ x, (e x 1).val = ix 1 * 1024 + (x 1).val) (hix : ix 0 = t + 8 * k ∧ ix 1 = 0) :
    mmVal (hblk h t) w s = fun x => slabOut h w s (e x) := by
  obtain ⟨i0, i1⟩ := hix
  rw [i0] at e0; rw [i1] at e1
  funext x
  refine slab_at k t ht h w s _ x (e0 x) ?_
  rw [e1]; omega

/-- The rows of the result's block at block index `(n, 0)`. -/
theorem rows_of (n : ℕ) (i : S16384x1024.Idx) (ix : Fin 2 → ℕ) (hix : ix 0 = n ∧ ix 1 = 0) {p : Prop}
    (hp : p ↔ ∀ a : Fin 2, ix a * S512x1024.size a ≤ (i a).val ∧ (i a).val < ix a * S512x1024.size a + S512x1024.size a) :
    p ↔ n * 512 ≤ (i 0).val ∧ (i 0).val < n * 512 + 512 := by
  obtain ⟨i0, i1⟩ := hix
  have hz : ∀ m : ℕ, m < 1024 → 0 * 1024 ≤ m ∧ m < 0 * 1024 + 1024 := fun m hm => by omega
  have h1 := hz (i 1).val (i 1).isLt
  rw [hp, Fin.forall_fin_two, i0, i1]
  exact ⟨fun hh => hh.1, fun hh => ⟨hh, h1⟩⟩

/-- What a pipeline of eight blocks leaves in its result array, each block flushed as the rows `G` gives it. -/
theorem final_of {cfg : Cfg sig Λ₀} {c : Dev nD} (D : Dat τ (Elt F) (HIx 4) ℕ UU ℕ cfg c) (w : Fin cfg.W) (k : ℕ) (hN : cfg.N = 8)
    (G : Buf (Elt F) ((cfg.win w).arr.view.loc (c.tc : Thread nD τ)))
    (row : ((cfg.win w).arr.view.loc (c.tc : Thread nD τ)).2.ty.Idx → ℕ)
    (hmem : ∀ (t : Fin cfg.N) (i : ((cfg.win w).arr.view.loc (c.tc : Thread nD τ)).2.ty.Idx), i ∈ ((cfg.win w).blk t).view.set ↔ (t.val + 8 * k) * 512 ≤ row i ∧ row i < (t.val + 8 * k) * 512 + 512)
    (hfl : ∀ t, (cfg.win w).flush t = true)
    (hG : ∀ t, (cfg.win w).flush t = true → D.flushed w t = ((cfg.win w).blk t).view.read (Elt F) G) :
    D.arrAt w cfg.N = fun i => if 4096 * k ≤ row i ∧ row i < 4096 * (k + 1) then G i else D.A w i := by
  funext i
  refine (Pipeline.Dat.arrAt_eq_piecewise D w G hG i).trans (if_congr ?_ rfl rfl)
  constructor
  · rintro ⟨t, -, hi⟩
    have := (hmem t i).mp hi
    have := t.isLt
    omega
  · rintro hi
    have hlt : row i / 512 - 8 * k < cfg.N := by omega
    exact ⟨⟨row i / 512 - 8 * k, hlt⟩, hfl _, (hmem _ i).mpr (by dsimp only; omega)⟩

/-- Pipeline 0's proof data: the arrays, and what each point leaves in the staging buffers. -/
def dat4 (c : Dev nD) (s : S1.Idx → Elt F .f32) (h : S2x4096x128.Idx → Elt F .f32) (w : S1024x128.Idx → Elt F .f32)
    (y : S16384x1024.Idx → Elt F .f32) : Dat τ (Elt F) (HIx 4) ℕ UU ℕ cfg4 c where
  A := fun | 0 => s | 1 => h | 2 => w | 3 => y | ⟨_ + 4, h⟩ => absurd h (Nat.not_lt.2 (Nat.le_add_left _ _))
  after := fun
    | 0, _ => s
    | 1, t => hblk h t.val
    | 2, _ => w
    | 3, t => mmVal (hblk h t.val) w s
    | ⟨_ + 4, h⟩, _ => absurd h (Nat.not_lt.2 (Nat.le_add_left _ _))
  Φ _ := Pipeline.scopedRest spec4 c
  q _ := fullShare
  owed _ := 0
  recorded _ := recs (F := F) c

/-- Pipeline 0's block indices: the slab's block at the point, the result's in slab 0's rows. -/
theorem index4 : ∀ t : Fin grid4.N, (win4_1.index t 0 = 0 ∧ win4_1.index t 1 = t.val ∧ win4_1.index t 2 = 0)
    ∧ win4_3.index t 0 = t.val + 8 * 0 ∧ win4_3.index t 1 = 0 := by decide +kernel

/-- The slab's block that pipeline 0 fetches at a point. -/
theorem block4 (h : S2x4096x128.Idx → Elt F .f32) (t : Fin grid4.N) : (win4_1.blk t).view.read (Elt F) h = hblk h t.val :=
  hblk_of h t.val (lt_of_lt_of_eq t.isLt N_4) (win4_1.rect t).emb (win4_1.index t) (fun x => Window.rect_emb_val win4_1 t x 0)
    (fun x => Window.rect_emb_val win4_1 t x 1) (fun x => Window.rect_emb_val win4_1 t x 2) (index4 t).1

/-- The body at every point of pipeline 0. -/
theorem obl4 (c : Dev nD) (s : S1.Idx → Elt F .f32) (h : S2x4096x128.Idx → Elt F .f32) (w : S1024x128.Idx → Elt F .f32)
    (y : S16384x1024.Idx → Elt F .f32) : BodyObligation (dat4 c s h w y) (defs₀ (F := F)) 𝒱₀ none Set.univ := fun t => by
  have e0 : ∀ t : Fin cfg4.N, (win4_0.blk t).view.read (Elt F) s = s := fun t => by
    funext x; exact congrArg s (funext fun a => Fin.ext ((Window.rect_emb_val_of_index_zero win4_0 t a (by fin_cases a; rfl) x)))
  have e2 : ∀ t : Fin cfg4.N, (win4_2.blk t).view.read (Elt F) w = w := fun t => by
    funext x; exact congrArg w (funext fun a => Fin.ext ((Window.rect_emb_val_of_index_zero win4_2 t a (by fin_cases a <;> rfl) x)))
  have k0 := fun d => (Dat.before_in_eq_fetched (dat4 c s h w y) 0 rfl (fun _ => rfl) (fun _ _ _ => rfl) (fun t => (e0 t).symm) t d).trans (e0 t)
  have k1 := fun d => (Dat.before_in_eq_fetched (dat4 c s h w y) 1 rfl (fun _ => rfl) (fun _ _ _ => rfl) (fun t => (block4 h t).symm) t d).trans (block4 h t)
  have k2 := fun d => (Dat.before_in_eq_fetched (dat4 c s h w y) 2 rfl (fun _ => rfl) (fun _ _ _ => rfl) (fun t => (e2 t).symm) t d).trans (e2 t)
  rw [bigSep_W4, bigSep_W4]
  exact mm_point c (grid4.coords t) _ (hstage4_0 ((cfg4.slots t 0).cast nbuf4_0)) _ (hstage4_1 ((cfg4.slots t 1).cast nbuf4_1))
    _ (hstage4_2 ((cfg4.slots t 2).cast nbuf4_2)) _ (hstage4_3 ((cfg4.slots t 3).cast nbuf4_3)) s _ w
    ((dat4 c s h w y).before 0 t) ((dat4 c s h w y).before 1 t) ((dat4 c s h w y).before 2 t) ((dat4 c s h w y).before 3 t)
    k0 k1 k2 (Pipeline.scopedRest spec4 c) _ _ rfl

/-- Pipeline 0 leaves slab 0's rows computed. -/
theorem final4 (c : Dev nD) (s : S1.Idx → Elt F .f32) (h : S2x4096x128.Idx → Elt F .f32) (w : S1024x128.Idx → Elt F .f32)
    (y : S16384x1024.Idx → Elt F .f32) : (dat4 c s h w y).arrAt 3 cfg4.N = slabStep 0 h w s y :=
  final_of (dat4 c s h w y) 3 0 N_4 (slabOut h w s) (fun i => (i 0).val)
    (fun t i => rows_of (t.val + 8 * 0) i (win4_3.index t) (index4 t).2 (by
      show i ∈ ((View.whole main_v6).slice (win4_3.rect t)).set ↔ _
      rw [View.set_slice_whole, Rect.mem_set_unit]; exact Iff.rfl)) flush4_3
    fun t _ => slabOut_of 0 t.val (lt_of_lt_of_eq t.isLt N_4) h w s (win4_3.rect t).emb (win4_3.index t)
      (fun x => Window.rect_emb_val win4_3 t x 0) (fun x => Window.rect_emb_val win4_3 t x 1) (index4 t).2

/-- Pipeline 1's proof data: the arrays, and what each point leaves in the staging buffers. -/
def dat5 (c : Dev nD) (s : S1.Idx → Elt F .f32) (h : S2x4096x128.Idx → Elt F .f32) (w : S1024x128.Idx → Elt F .f32)
    (y : S16384x1024.Idx → Elt F .f32) : Dat τ (Elt F) (HIx 4) ℕ UU ℕ cfg5 c where
  A := fun | 0 => s | 1 => h | 2 => w | 3 => y | ⟨_ + 4, h⟩ => absurd h (Nat.not_lt.2 (Nat.le_add_left _ _))
  after := fun
    | 0, _ => s
    | 1, t => hblk h t.val
    | 2, _ => w
    | 3, t => mmVal (hblk h t.val) w s
    | ⟨_ + 4, h⟩, _ => absurd h (Nat.not_lt.2 (Nat.le_add_left _ _))
  Φ _ := Pipeline.scopedRest spec5 c
  q _ := fullShare
  owed _ := 0
  recorded _ := recs (F := F) c

/-- Pipeline 1's block indices: the slab's block at the point, the result's in slab 1's rows. -/
theorem index5 : ∀ t : Fin grid5.N, (win5_1.index t 0 = 0 ∧ win5_1.index t 1 = t.val ∧ win5_1.index t 2 = 0)
    ∧ win5_3.index t 0 = t.val + 8 * 1 ∧ win5_3.index t 1 = 0 := by decide +kernel

/-- The slab's block that pipeline 1 fetches at a point. -/
theorem block5 (h : S2x4096x128.Idx → Elt F .f32) (t : Fin grid5.N) : (win5_1.blk t).view.read (Elt F) h = hblk h t.val :=
  hblk_of h t.val (lt_of_lt_of_eq t.isLt N_5) (win5_1.rect t).emb (win5_1.index t) (fun x => Window.rect_emb_val win5_1 t x 0)
    (fun x => Window.rect_emb_val win5_1 t x 1) (fun x => Window.rect_emb_val win5_1 t x 2) (index5 t).1

/-- The body at every point of pipeline 1. -/
theorem obl5 (c : Dev nD) (s : S1.Idx → Elt F .f32) (h : S2x4096x128.Idx → Elt F .f32) (w : S1024x128.Idx → Elt F .f32)
    (y : S16384x1024.Idx → Elt F .f32) : BodyObligation (dat5 c s h w y) (defs₀ (F := F)) 𝒱₀ none Set.univ := fun t => by
  have e0 : ∀ t : Fin cfg5.N, (win5_0.blk t).view.read (Elt F) s = s := fun t => by
    funext x; exact congrArg s (funext fun a => Fin.ext ((Window.rect_emb_val_of_index_zero win5_0 t a (by fin_cases a; rfl) x)))
  have e2 : ∀ t : Fin cfg5.N, (win5_2.blk t).view.read (Elt F) w = w := fun t => by
    funext x; exact congrArg w (funext fun a => Fin.ext ((Window.rect_emb_val_of_index_zero win5_2 t a (by fin_cases a <;> rfl) x)))
  have k0 := fun d => (Dat.before_in_eq_fetched (dat5 c s h w y) 0 rfl (fun _ => rfl) (fun _ _ _ => rfl) (fun t => (e0 t).symm) t d).trans (e0 t)
  have k1 := fun d => (Dat.before_in_eq_fetched (dat5 c s h w y) 1 rfl (fun _ => rfl) (fun _ _ _ => rfl) (fun t => (block5 h t).symm) t d).trans (block5 h t)
  have k2 := fun d => (Dat.before_in_eq_fetched (dat5 c s h w y) 2 rfl (fun _ => rfl) (fun _ _ _ => rfl) (fun t => (e2 t).symm) t d).trans (e2 t)
  rw [bigSep_W5, bigSep_W5]
  exact mm_point c (grid5.coords t) _ (hstage5_0 ((cfg5.slots t 0).cast nbuf5_0)) _ (hstage5_1 ((cfg5.slots t 1).cast nbuf5_1))
    _ (hstage5_2 ((cfg5.slots t 2).cast nbuf5_2)) _ (hstage5_3 ((cfg5.slots t 3).cast nbuf5_3)) s _ w
    ((dat5 c s h w y).before 0 t) ((dat5 c s h w y).before 1 t) ((dat5 c s h w y).before 2 t) ((dat5 c s h w y).before 3 t)
    k0 k1 k2 (Pipeline.scopedRest spec5 c) _ _ rfl

/-- Pipeline 1 leaves slab 1's rows computed. -/
theorem final5 (c : Dev nD) (s : S1.Idx → Elt F .f32) (h : S2x4096x128.Idx → Elt F .f32) (w : S1024x128.Idx → Elt F .f32)
    (y : S16384x1024.Idx → Elt F .f32) : (dat5 c s h w y).arrAt 3 cfg5.N = slabStep 1 h w s y :=
  final_of (dat5 c s h w y) 3 1 N_5 (slabOut h w s) (fun i => (i 0).val)
    (fun t i => rows_of (t.val + 8 * 1) i (win5_3.index t) (index5 t).2 (by
      show i ∈ ((View.whole main_v7).slice (win5_3.rect t)).set ↔ _
      rw [View.set_slice_whole, Rect.mem_set_unit]; exact Iff.rfl)) flush5_3
    fun t _ => slabOut_of 1 t.val (lt_of_lt_of_eq t.isLt N_5) h w s (win5_3.rect t).emb (win5_3.index t)
      (fun x => Window.rect_emb_val win5_3 t x 0) (fun x => Window.rect_emb_val win5_3 t x 1) (index5 t).2

/-- Pipeline 2's proof data: the arrays, and what each point leaves in the staging buffers. -/
def dat6 (c : Dev nD) (s : S1.Idx → Elt F .f32) (h : S2x4096x128.Idx → Elt F .f32) (w : S1024x128.Idx → Elt F .f32)
    (y : S16384x1024.Idx → Elt F .f32) : Dat τ (Elt F) (HIx 4) ℕ UU ℕ cfg6 c where
  A := fun | 0 => s | 1 => h | 2 => w | 3 => y | ⟨_ + 4, h⟩ => absurd h (Nat.not_lt.2 (Nat.le_add_left _ _))
  after := fun
    | 0, _ => s
    | 1, t => hblk h t.val
    | 2, _ => w
    | 3, t => mmVal (hblk h t.val) w s
    | ⟨_ + 4, h⟩, _ => absurd h (Nat.not_lt.2 (Nat.le_add_left _ _))
  Φ _ := Pipeline.scopedRest spec6 c
  q _ := fullShare
  owed _ := 0
  recorded _ := recs (F := F) c

/-- Pipeline 2's block indices: the slab's block at the point, the result's in slab 2's rows. -/
theorem index6 : ∀ t : Fin grid6.N, (win6_1.index t 0 = 0 ∧ win6_1.index t 1 = t.val ∧ win6_1.index t 2 = 0)
    ∧ win6_3.index t 0 = t.val + 8 * 2 ∧ win6_3.index t 1 = 0 := by decide +kernel

/-- The slab's block that pipeline 2 fetches at a point. -/
theorem block6 (h : S2x4096x128.Idx → Elt F .f32) (t : Fin grid6.N) : (win6_1.blk t).view.read (Elt F) h = hblk h t.val :=
  hblk_of h t.val (lt_of_lt_of_eq t.isLt N_6) (win6_1.rect t).emb (win6_1.index t) (fun x => Window.rect_emb_val win6_1 t x 0)
    (fun x => Window.rect_emb_val win6_1 t x 1) (fun x => Window.rect_emb_val win6_1 t x 2) (index6 t).1

/-- The body at every point of pipeline 2. -/
theorem obl6 (c : Dev nD) (s : S1.Idx → Elt F .f32) (h : S2x4096x128.Idx → Elt F .f32) (w : S1024x128.Idx → Elt F .f32)
    (y : S16384x1024.Idx → Elt F .f32) : BodyObligation (dat6 c s h w y) (defs₀ (F := F)) 𝒱₀ none Set.univ := fun t => by
  have e0 : ∀ t : Fin cfg6.N, (win6_0.blk t).view.read (Elt F) s = s := fun t => by
    funext x; exact congrArg s (funext fun a => Fin.ext ((Window.rect_emb_val_of_index_zero win6_0 t a (by fin_cases a; rfl) x)))
  have e2 : ∀ t : Fin cfg6.N, (win6_2.blk t).view.read (Elt F) w = w := fun t => by
    funext x; exact congrArg w (funext fun a => Fin.ext ((Window.rect_emb_val_of_index_zero win6_2 t a (by fin_cases a <;> rfl) x)))
  have k0 := fun d => (Dat.before_in_eq_fetched (dat6 c s h w y) 0 rfl (fun _ => rfl) (fun _ _ _ => rfl) (fun t => (e0 t).symm) t d).trans (e0 t)
  have k1 := fun d => (Dat.before_in_eq_fetched (dat6 c s h w y) 1 rfl (fun _ => rfl) (fun _ _ _ => rfl) (fun t => (block6 h t).symm) t d).trans (block6 h t)
  have k2 := fun d => (Dat.before_in_eq_fetched (dat6 c s h w y) 2 rfl (fun _ => rfl) (fun _ _ _ => rfl) (fun t => (e2 t).symm) t d).trans (e2 t)
  rw [bigSep_W6, bigSep_W6]
  exact mm_point c (grid6.coords t) _ (hstage6_0 ((cfg6.slots t 0).cast nbuf6_0)) _ (hstage6_1 ((cfg6.slots t 1).cast nbuf6_1))
    _ (hstage6_2 ((cfg6.slots t 2).cast nbuf6_2)) _ (hstage6_3 ((cfg6.slots t 3).cast nbuf6_3)) s _ w
    ((dat6 c s h w y).before 0 t) ((dat6 c s h w y).before 1 t) ((dat6 c s h w y).before 2 t) ((dat6 c s h w y).before 3 t)
    k0 k1 k2 (Pipeline.scopedRest spec6 c) _ _ rfl

/-- Pipeline 2 leaves slab 2's rows computed. -/
theorem final6 (c : Dev nD) (s : S1.Idx → Elt F .f32) (h : S2x4096x128.Idx → Elt F .f32) (w : S1024x128.Idx → Elt F .f32)
    (y : S16384x1024.Idx → Elt F .f32) : (dat6 c s h w y).arrAt 3 cfg6.N = slabStep 2 h w s y :=
  final_of (dat6 c s h w y) 3 2 N_6 (slabOut h w s) (fun i => (i 0).val)
    (fun t i => rows_of (t.val + 8 * 2) i (win6_3.index t) (index6 t).2 (by
      show i ∈ ((View.whole main_v8).slice (win6_3.rect t)).set ↔ _
      rw [View.set_slice_whole, Rect.mem_set_unit]; exact Iff.rfl)) flush6_3
    fun t _ => slabOut_of 2 t.val (lt_of_lt_of_eq t.isLt N_6) h w s (win6_3.rect t).emb (win6_3.index t)
      (fun x => Window.rect_emb_val win6_3 t x 0) (fun x => Window.rect_emb_val win6_3 t x 1) (index6 t).2

/-- Pipeline 3's proof data: the arrays, and what each point leaves in the staging buffers. -/
def dat7 (c : Dev nD) (s : S1.Idx → Elt F .f32) (h : S2x4096x128.Idx → Elt F .f32) (w : S1024x128.Idx → Elt F .f32)
    (y : S16384x1024.Idx → Elt F .f32) : Dat τ (Elt F) (HIx 4) ℕ UU ℕ cfg7 c where
  A := fun | 0 => s | 1 => h | 2 => w | 3 => y | ⟨_ + 4, h⟩ => absurd h (Nat.not_lt.2 (Nat.le_add_left _ _))
  after := fun
    | 0, _ => s
    | 1, t => hblk h t.val
    | 2, _ => w
    | 3, t => mmVal (hblk h t.val) w s
    | ⟨_ + 4, h⟩, _ => absurd h (Nat.not_lt.2 (Nat.le_add_left _ _))
  Φ _ := Pipeline.scopedRest spec7 c
  q _ := fullShare
  owed _ := 0
  recorded _ := recs (F := F) c

/-- Pipeline 3's block indices: the slab's block at the point, the result's in slab 3's rows. -/
theorem index7 : ∀ t : Fin grid7.N, (win7_1.index t 0 = 0 ∧ win7_1.index t 1 = t.val ∧ win7_1.index t 2 = 0)
    ∧ win7_3.index t 0 = t.val + 8 * 3 ∧ win7_3.index t 1 = 0 := by decide +kernel

/-- The slab's block that pipeline 3 fetches at a point. -/
theorem block7 (h : S2x4096x128.Idx → Elt F .f32) (t : Fin grid7.N) : (win7_1.blk t).view.read (Elt F) h = hblk h t.val :=
  hblk_of h t.val (lt_of_lt_of_eq t.isLt N_7) (win7_1.rect t).emb (win7_1.index t) (fun x => Window.rect_emb_val win7_1 t x 0)
    (fun x => Window.rect_emb_val win7_1 t x 1) (fun x => Window.rect_emb_val win7_1 t x 2) (index7 t).1

/-- The body at every point of pipeline 3. -/
theorem obl7 (c : Dev nD) (s : S1.Idx → Elt F .f32) (h : S2x4096x128.Idx → Elt F .f32) (w : S1024x128.Idx → Elt F .f32)
    (y : S16384x1024.Idx → Elt F .f32) : BodyObligation (dat7 c s h w y) (defs₀ (F := F)) 𝒱₀ none Set.univ := fun t => by
  have e0 : ∀ t : Fin cfg7.N, (win7_0.blk t).view.read (Elt F) s = s := fun t => by
    funext x; exact congrArg s (funext fun a => Fin.ext ((Window.rect_emb_val_of_index_zero win7_0 t a (by fin_cases a; rfl) x)))
  have e2 : ∀ t : Fin cfg7.N, (win7_2.blk t).view.read (Elt F) w = w := fun t => by
    funext x; exact congrArg w (funext fun a => Fin.ext ((Window.rect_emb_val_of_index_zero win7_2 t a (by fin_cases a <;> rfl) x)))
  have k0 := fun d => (Dat.before_in_eq_fetched (dat7 c s h w y) 0 rfl (fun _ => rfl) (fun _ _ _ => rfl) (fun t => (e0 t).symm) t d).trans (e0 t)
  have k1 := fun d => (Dat.before_in_eq_fetched (dat7 c s h w y) 1 rfl (fun _ => rfl) (fun _ _ _ => rfl) (fun t => (block7 h t).symm) t d).trans (block7 h t)
  have k2 := fun d => (Dat.before_in_eq_fetched (dat7 c s h w y) 2 rfl (fun _ => rfl) (fun _ _ _ => rfl) (fun t => (e2 t).symm) t d).trans (e2 t)
  rw [bigSep_W7, bigSep_W7]
  exact mm_point c (grid7.coords t) _ (hstage7_0 ((cfg7.slots t 0).cast nbuf7_0)) _ (hstage7_1 ((cfg7.slots t 1).cast nbuf7_1))
    _ (hstage7_2 ((cfg7.slots t 2).cast nbuf7_2)) _ (hstage7_3 ((cfg7.slots t 3).cast nbuf7_3)) s _ w
    ((dat7 c s h w y).before 0 t) ((dat7 c s h w y).before 1 t) ((dat7 c s h w y).before 2 t) ((dat7 c s h w y).before 3 t)
    k0 k1 k2 (Pipeline.scopedRest spec7 c) _ _ rfl

/-- Pipeline 3 leaves slab 3's rows computed. -/
theorem final7 (c : Dev nD) (s : S1.Idx → Elt F .f32) (h : S2x4096x128.Idx → Elt F .f32) (w : S1024x128.Idx → Elt F .f32)
    (y : S16384x1024.Idx → Elt F .f32) : (dat7 c s h w y).arrAt 3 cfg7.N = slabStep 3 h w s y :=
  final_of (dat7 c s h w y) 3 3 N_7 (slabOut h w s) (fun i => (i 0).val)
    (fun t i => rows_of (t.val + 8 * 3) i (win7_3.index t) (index7 t).2 (by
      show i ∈ ((View.whole main_v9).slice (win7_3.rect t)).set ↔ _
      rw [View.set_slice_whole, Rect.mem_set_unit]; exact Iff.rfl)) flush7_3
    fun t _ => slabOut_of 3 t.val (lt_of_lt_of_eq t.isLt N_7) h w s (win7_3.rect t).emb (win7_3.index t)
      (fun x => Window.rect_emb_val win7_3 t x 0) (fun x => Window.rect_emb_val win7_3 t x 1) (index7 t).2

end Cert.Proof.Regions
-- ==== Proof.Segs.lean ====
/-
  Each pallas_call as @main runs it: from its operands' buffers and the state left by the SparseCore calls, to its result's.
-/
module

public import proofs.«01_k».proof.Proof.Regions

@[expose] public section

noncomputable section

namespace Cert.Proof.Segs

open Cert.KernelIdeal Cert.KernelIdeal.Gen Cert.Proof.Regions
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

/-- The level below which the TensorCore's recorded waits stay, after the last call. -/
abbrev cut : ℕ := 8 * (inferInstance : SparseCore.Cfg.Blocks 4 4).fst 4

/-- The TensorCore owes nothing, its recorded waits below the cut. -/
def owesB (c : Dev nD) : sProp (MM F) :=
  iprop(∃ W, ⌜(K (F := F)).WBelow (c.tc : Thread nD τ) W cut⌝ ∗ owes (c.tc : Thread nD τ) 0 W)

/-- The four pipelines' proof data at given array contents. -/
def pd (s : S1.Idx → Elt F .f32) (h : S2x4096x128.Idx → Elt F .f32) (w : S1024x128.Idx → Elt F .f32)
    (y : S16384x1024.Idx → Elt F .f32) : (p : Fin 4) → (c : Dev nD) → Dat τ (Elt F) (HIx 4) ℕ UU ℕ (Pipeline.pin (pcfgs (F := F)) adm p) c
  | 0, c => dat4 c s h w y
  | 1, c => dat5 c s h w y
  | 2, c => dat6 c s h w y
  | 3, c => dat7 c s h w y

set_option backward.isDefEq.respectTransparency.types false in
/-- A pallas_call as a region of @main: entered from its arrays and the TensorCore owing nothing, left with its arrays at their final contents. -/
def seg (D : (p : Fin 4) → (c : Dev nD) → Dat τ (Elt F) (HIx 4) ℕ UU ℕ (Pipeline.pin (pcfgs (F := F)) adm p) c) (p : Fin 4)
    (kit : Pipeline.LaunchFacts (nD := nD) (τ := τ) cfgs p)
    (hbody : ∀ c, BodyObligation (D p c) (defs₀ (F := F)) 𝒱₀ none Set.univ)
    (howed : ∀ c t, (D p c).owed t = 0) (hrec : ∀ c t, (D p c).recorded t = recs (F := F) c)
    (hΦ : ∀ c t, (D p c).Φ t = Pipeline.scopedRest (Pipeline.pin (pcfgs (F := F)) adm p).spec c) :
    Pipeline.RegionSeg (pcfgs (F := F)) adm D none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ _ _ p howed
  pre c := iprop((D p c).arrays ((D p c).arrAt · 0) ∗ owesB c)
  post c := iprop((D p c).arrays ((D p c).arrAt · (Pipeline.pin (pcfgs (F := F)) adm p).N) ∗ owesB c)
  X _ := BI.emp
  Y _ := BI.emp
  Z _ := BI.emp
  hentry c := by
    rw [Pipeline.ownSems0_none, Pipeline.prefHeld_of_none _ rfl]
    iintro ⟨⟨Ha, HO⟩, -, -⟩
    imodintro
    isplitl [Ha]; · iexact Ha
    isplitr; · iempintro
    isplitl [HO]
    · unfold Pipeline.Dat.owesAt Pipeline.owesWithin Pipeline.Dat.bound owesB
      rw [howed c 0, hrec c]
      icases HO with ⟨%W, %hW, HO⟩; iexists W; isplitr; · ipureintro; exact fun q hq => Or.inl (hW q hq)
      iexact HO
    isplitr <;> iempintro
  hin c := by
    rw [hΦ]
    iintro ⟨-, -, Hr⟩
    iexact Hr
  hout c := by
    rw [hΦ, Pipeline.ownSems0_none]
    iintro Hr
    isplitr; · iempintro
    isplitr; · iempintro
    iexact Hr
  hexit c := by
    iintro ⟨Ha, HO, -, -⟩
    imodintro
    isplitl [Ha]; · iexact Ha
    unfold Pipeline.Dat.owesAt Pipeline.owesWithin Pipeline.Dat.bound owesB
    rw [howed c (Fin.last _), hrec c]
    icases HO with ⟨%W, %hW, HO⟩; iexists W
    isplitr
    · ipureintro
      intro q hq
      rcases hW hq with h | ⟨x, y, rfl⟩
      · exact h
      · exact Nat.zero_le _
    iexact HO

/-- A pallas_call as @main runs it, over any proof data: its arrays in, its arrays out. -/
theorem region_of [∀ e, Nonempty (Elt F e)]
    (D' : (p : Fin 4) → (c : Dev nD) → Dat τ (Elt F) (HIx 4) ℕ UU ℕ (Pipeline.pin (pcfgs (F := F)) adm p) c) (p : Fin 4)
    (kit : Pipeline.LaunchFacts (nD := nD) (τ := τ) cfgs p)
    (hbody : ∀ c, BodyObligation (D' p c) (defs₀ (F := F)) 𝒱₀ none Set.univ)
    (howed : ∀ c t, (D' p c).owed t = 0) (hrec : ∀ c t, (D' p c).recorded t = recs (F := F) c)
    (hΦ : ∀ c t, (D' p c).Φ t = Pipeline.scopedRest (Pipeline.pin (pcfgs (F := F)) adm p).spec c)
    (c : Dev nD) (Q : PUnit → sProp (MM F)) :
    iprop(((boundary (c.tc : Thread nD τ) ∗ (D' p c).arrays ((D' p c).arrAt · (Pipeline.pin (pcfgs (F := F)) adm p).N) ∗ owesB c) -∗ Q ⟨⟩)
        ∗ boundary (c.tc : Thread nD τ) ∗ ((D' p c).arrays ((D' p c).arrAt · 0) ∗ owesB c) ∗ levAts (K (F := F)).L (K (F := F)).lev
        ∗ Pipeline.cellsGhost (Pipeline.pin (pcfgs (F := F)) adm) EP p c ∗ Pipeline.toksInit (Pipeline.pin (pcfgs (F := F)) adm) EP p c)
      ⊢ wp (M := MM F) frame (wpE ((K (F := F)).defs (D (F := F))) 𝒱 (T c) none) Set.univ
          (Prog.lift (.customCall (SparseCore.inner (Pipeline.entry p)) ())) Q := by
  refine BIBase.Entails.trans ?_ ((K (F := F)).wp_liftProg (D (F := F)) 𝒱 (T c) Set.univ none (Prog.lift (.customCall (Pipeline.entry p) ())) Q)
  refine BIBase.Entails.trans ?_ (Pipeline.RegionSeg.wp (pcfgs (F := F)) adm D' none cellOf_inj EP defs₀ 𝒱₀ _ _
    (seg D' p kit hbody howed hrec hΦ) c none (fun _ h => nomatch h) .ret Q)
  iintro ⟨Hk, H⟩
  isplitl [Hk]
  · iintro ⟨Hb, Hp⟩
    rw [wp_ret]
    imodintro
    iapply Hk
    isplitl [Hb]; · iexact Hb
    ihave Hp' := (Entails.of_eq (show (seg D' p kit hbody howed hrec hΦ).post c = iprop((D' p c).arrays ((D' p c).arrAt · (Pipeline.pin (pcfgs (F := F)) adm p).N) ∗ owesB c) from rfl)) $$ Hp
    iexact Hp'
  iexact H

/-- Pipeline 0's arrays, one by one. -/
theorem arrays4 (c : Dev nD) (s : S1.Idx → Elt F .f32) (h : S2x4096x128.Idx → Elt F .f32) (w : S1024x128.Idx → Elt F .f32)
    (y : S16384x1024.Idx → Elt F .f32) (n : ℕ) :
    (pd s h w y 0 c).arrays ((pd s h w y 0 c).arrAt · n)
      = iprop(((c.tc : Thread nD τ).loc main_v1 ↦{fullShare} s) ∗ ((c.tc : Thread nD τ).loc main_v2 ↦{fullShare} h)
          ∗ ((c.tc : Thread nD τ).loc main_arg2 ↦{fullShare} w) ∗ ((c.tc : Thread nD τ).loc main_v6 ↦{fullShare} (dat4 c s h w y).arrAt 3 n)) := by
  rw [Pipeline.arrays_eq (Pipeline.pin (pcfgs (F := F)) adm) (pd s h w y) 0 c arr_whole4 ((pd s h w y 0 c).share_full fun _ => rfl)]
  refine (bigSep_W4 _).trans ?_
  have e0 : (dat4 c s h w y).arrAt 0 n = s := Dat.arrAt_in _ 0 rfl n
  have e1 : (dat4 c s h w y).arrAt 1 n = h := Dat.arrAt_in _ 1 rfl n
  have e2 : (dat4 c s h w y).arrAt 2 n = w := Dat.arrAt_in _ 2 rfl n
  show iprop((_ ↦{fullShare} (dat4 c s h w y).arrAt 0 n) ∗ (_ ↦{fullShare} (dat4 c s h w y).arrAt 1 n)
    ∗ (_ ↦{fullShare} (dat4 c s h w y).arrAt 2 n) ∗ (_ ↦{fullShare} (dat4 c s h w y).arrAt 3 n)) = _
  rw [e0, e1, e2]

/-- Between points pipeline 0 holds the scoped buffers it does not stage. -/
theorem phi4 (s : S1.Idx → Elt F .f32) (h : S2x4096x128.Idx → Elt F .f32) (w : S1024x128.Idx → Elt F .f32)
    (y : S16384x1024.Idx → Elt F .f32) (c : Dev nD) (t) :
    (pd s h w y 0 c).Φ t = Pipeline.scopedRest (Pipeline.pin (pcfgs (F := F)) adm 0).spec c := by
  show Pipeline.scopedRest spec4 c = _
  rfl

/-- Pallas_call 0 as @main runs it: slab 0's rows of the result computed. -/
theorem region4 [∀ e, Nonempty (Elt F e)] (c : Dev nD) (s : S1.Idx → Elt F .f32) (h : S2x4096x128.Idx → Elt F .f32)
    (w : S1024x128.Idx → Elt F .f32) (y : S16384x1024.Idx → Elt F .f32) (Q : PUnit → sProp (MM F)) :
    iprop(((boundary (c.tc : Thread nD τ) ∗ (((c.tc : Thread nD τ).loc main_v1 ↦{fullShare} s) ∗ ((c.tc : Thread nD τ).loc main_v2 ↦{fullShare} h)
          ∗ ((c.tc : Thread nD τ).loc main_arg2 ↦{fullShare} w) ∗ ((c.tc : Thread nD τ).loc main_v6 ↦{fullShare} slabStep 0 h w s y)) ∗ owesB c) -∗ Q ⟨⟩)
        ∗ boundary (c.tc : Thread nD τ) ∗ ((((c.tc : Thread nD τ).loc main_v1 ↦{fullShare} s) ∗ ((c.tc : Thread nD τ).loc main_v2 ↦{fullShare} h)
          ∗ ((c.tc : Thread nD τ).loc main_arg2 ↦{fullShare} w) ∗ ((c.tc : Thread nD τ).loc main_v6 ↦{fullShare} y)) ∗ owesB c)
        ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp (M := MM F) frame (wpE ((K (F := F)).defs (D (F := F))) 𝒱 (T c) none) Set.univ
          (Prog.lift (.customCall (SparseCore.inner (Pipeline.entry 0)) ())) Q := by
  have e := region_of (pd s h w y) 0 launch4 (fun c => obl4 c s h w y) (fun _ _ => rfl) (fun _ _ => rfl) (phi4 s h w y) c Q
  rw [arrays4 c s h w y 0, arrays4 c s h w y (Pipeline.pin (pcfgs (F := F)) adm 0).N] at e
  have hf : (dat4 c s h w y).arrAt 3 (Pipeline.pin (pcfgs (F := F)) adm 0).N = slabStep 0 h w s y := final4 c s h w y
  rw [hf] at e
  exact e

/-- Pipeline 1's arrays, one by one. -/
theorem arrays5 (c : Dev nD) (s : S1.Idx → Elt F .f32) (h : S2x4096x128.Idx → Elt F .f32) (w : S1024x128.Idx → Elt F .f32)
    (y : S16384x1024.Idx → Elt F .f32) (n : ℕ) :
    (pd s h w y 1 c).arrays ((pd s h w y 1 c).arrAt · n)
      = iprop(((c.tc : Thread nD τ).loc main_v1 ↦{fullShare} s) ∗ ((c.tc : Thread nD τ).loc main_v3 ↦{fullShare} h)
          ∗ ((c.tc : Thread nD τ).loc main_arg2 ↦{fullShare} w) ∗ ((c.tc : Thread nD τ).loc main_v7 ↦{fullShare} (dat5 c s h w y).arrAt 3 n)) := by
  rw [Pipeline.arrays_eq (Pipeline.pin (pcfgs (F := F)) adm) (pd s h w y) 1 c arr_whole5 ((pd s h w y 1 c).share_full fun _ => rfl)]
  refine (bigSep_W5 _).trans ?_
  have e0 : (dat5 c s h w y).arrAt 0 n = s := Dat.arrAt_in _ 0 rfl n
  have e1 : (dat5 c s h w y).arrAt 1 n = h := Dat.arrAt_in _ 1 rfl n
  have e2 : (dat5 c s h w y).arrAt 2 n = w := Dat.arrAt_in _ 2 rfl n
  show iprop((_ ↦{fullShare} (dat5 c s h w y).arrAt 0 n) ∗ (_ ↦{fullShare} (dat5 c s h w y).arrAt 1 n)
    ∗ (_ ↦{fullShare} (dat5 c s h w y).arrAt 2 n) ∗ (_ ↦{fullShare} (dat5 c s h w y).arrAt 3 n)) = _
  rw [e0, e1, e2]

/-- Between points pipeline 1 holds the scoped buffers it does not stage. -/
theorem phi5 (s : S1.Idx → Elt F .f32) (h : S2x4096x128.Idx → Elt F .f32) (w : S1024x128.Idx → Elt F .f32)
    (y : S16384x1024.Idx → Elt F .f32) (c : Dev nD) (t) :
    (pd s h w y 1 c).Φ t = Pipeline.scopedRest (Pipeline.pin (pcfgs (F := F)) adm 1).spec c := by
  show Pipeline.scopedRest spec5 c = _
  rfl

/-- Pallas_call 1 as @main runs it: slab 1's rows of the result computed. -/
theorem region5 [∀ e, Nonempty (Elt F e)] (c : Dev nD) (s : S1.Idx → Elt F .f32) (h : S2x4096x128.Idx → Elt F .f32)
    (w : S1024x128.Idx → Elt F .f32) (y : S16384x1024.Idx → Elt F .f32) (Q : PUnit → sProp (MM F)) :
    iprop(((boundary (c.tc : Thread nD τ) ∗ (((c.tc : Thread nD τ).loc main_v1 ↦{fullShare} s) ∗ ((c.tc : Thread nD τ).loc main_v3 ↦{fullShare} h)
          ∗ ((c.tc : Thread nD τ).loc main_arg2 ↦{fullShare} w) ∗ ((c.tc : Thread nD τ).loc main_v7 ↦{fullShare} slabStep 1 h w s y)) ∗ owesB c) -∗ Q ⟨⟩)
        ∗ boundary (c.tc : Thread nD τ) ∗ ((((c.tc : Thread nD τ).loc main_v1 ↦{fullShare} s) ∗ ((c.tc : Thread nD τ).loc main_v3 ↦{fullShare} h)
          ∗ ((c.tc : Thread nD τ).loc main_arg2 ↦{fullShare} w) ∗ ((c.tc : Thread nD τ).loc main_v7 ↦{fullShare} y)) ∗ owesB c)
        ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp (M := MM F) frame (wpE ((K (F := F)).defs (D (F := F))) 𝒱 (T c) none) Set.univ
          (Prog.lift (.customCall (SparseCore.inner (Pipeline.entry 1)) ())) Q := by
  have e := region_of (pd s h w y) 1 launch5 (fun c => obl5 c s h w y) (fun _ _ => rfl) (fun _ _ => rfl) (phi5 s h w y) c Q
  rw [arrays5 c s h w y 0, arrays5 c s h w y (Pipeline.pin (pcfgs (F := F)) adm 1).N] at e
  have hf : (dat5 c s h w y).arrAt 3 (Pipeline.pin (pcfgs (F := F)) adm 1).N = slabStep 1 h w s y := final5 c s h w y
  rw [hf] at e
  exact e

/-- Pipeline 2's arrays, one by one. -/
theorem arrays6 (c : Dev nD) (s : S1.Idx → Elt F .f32) (h : S2x4096x128.Idx → Elt F .f32) (w : S1024x128.Idx → Elt F .f32)
    (y : S16384x1024.Idx → Elt F .f32) (n : ℕ) :
    (pd s h w y 2 c).arrays ((pd s h w y 2 c).arrAt · n)
      = iprop(((c.tc : Thread nD τ).loc main_v1 ↦{fullShare} s) ∗ ((c.tc : Thread nD τ).loc main_v4 ↦{fullShare} h)
          ∗ ((c.tc : Thread nD τ).loc main_arg2 ↦{fullShare} w) ∗ ((c.tc : Thread nD τ).loc main_v8 ↦{fullShare} (dat6 c s h w y).arrAt 3 n)) := by
  rw [Pipeline.arrays_eq (Pipeline.pin (pcfgs (F := F)) adm) (pd s h w y) 2 c arr_whole6 ((pd s h w y 2 c).share_full fun _ => rfl)]
  refine (bigSep_W6 _).trans ?_
  have e0 : (dat6 c s h w y).arrAt 0 n = s := Dat.arrAt_in _ 0 rfl n
  have e1 : (dat6 c s h w y).arrAt 1 n = h := Dat.arrAt_in _ 1 rfl n
  have e2 : (dat6 c s h w y).arrAt 2 n = w := Dat.arrAt_in _ 2 rfl n
  show iprop((_ ↦{fullShare} (dat6 c s h w y).arrAt 0 n) ∗ (_ ↦{fullShare} (dat6 c s h w y).arrAt 1 n)
    ∗ (_ ↦{fullShare} (dat6 c s h w y).arrAt 2 n) ∗ (_ ↦{fullShare} (dat6 c s h w y).arrAt 3 n)) = _
  rw [e0, e1, e2]

/-- Between points pipeline 2 holds the scoped buffers it does not stage. -/
theorem phi6 (s : S1.Idx → Elt F .f32) (h : S2x4096x128.Idx → Elt F .f32) (w : S1024x128.Idx → Elt F .f32)
    (y : S16384x1024.Idx → Elt F .f32) (c : Dev nD) (t) :
    (pd s h w y 2 c).Φ t = Pipeline.scopedRest (Pipeline.pin (pcfgs (F := F)) adm 2).spec c := by
  show Pipeline.scopedRest spec6 c = _
  rfl

/-- Pallas_call 2 as @main runs it: slab 2's rows of the result computed. -/
theorem region6 [∀ e, Nonempty (Elt F e)] (c : Dev nD) (s : S1.Idx → Elt F .f32) (h : S2x4096x128.Idx → Elt F .f32)
    (w : S1024x128.Idx → Elt F .f32) (y : S16384x1024.Idx → Elt F .f32) (Q : PUnit → sProp (MM F)) :
    iprop(((boundary (c.tc : Thread nD τ) ∗ (((c.tc : Thread nD τ).loc main_v1 ↦{fullShare} s) ∗ ((c.tc : Thread nD τ).loc main_v4 ↦{fullShare} h)
          ∗ ((c.tc : Thread nD τ).loc main_arg2 ↦{fullShare} w) ∗ ((c.tc : Thread nD τ).loc main_v8 ↦{fullShare} slabStep 2 h w s y)) ∗ owesB c) -∗ Q ⟨⟩)
        ∗ boundary (c.tc : Thread nD τ) ∗ ((((c.tc : Thread nD τ).loc main_v1 ↦{fullShare} s) ∗ ((c.tc : Thread nD τ).loc main_v4 ↦{fullShare} h)
          ∗ ((c.tc : Thread nD τ).loc main_arg2 ↦{fullShare} w) ∗ ((c.tc : Thread nD τ).loc main_v8 ↦{fullShare} y)) ∗ owesB c)
        ∗ levAts (K (F := F)).L (K (F := F)).lev
        ∗ Pipeline.cellsGhost (Pipeline.pin (pcfgs (F := F)) adm) EP 2 c ∗ Pipeline.toksInit (Pipeline.pin (pcfgs (F := F)) adm) EP 2 c)
      ⊢ wp (M := MM F) frame (wpE ((K (F := F)).defs (D (F := F))) 𝒱 (T c) none) Set.univ
          (Prog.lift (.customCall (SparseCore.inner (Pipeline.entry 2)) ())) Q := by
  have e := region_of (pd s h w y) 2 launch6 (fun c => obl6 c s h w y) (fun _ _ => rfl) (fun _ _ => rfl) (phi6 s h w y) c Q
  rw [arrays6 c s h w y 0, arrays6 c s h w y (Pipeline.pin (pcfgs (F := F)) adm 2).N] at e
  have hf : (dat6 c s h w y).arrAt 3 (Pipeline.pin (pcfgs (F := F)) adm 2).N = slabStep 2 h w s y := final6 c s h w y
  rw [hf] at e
  exact e

/-- Pipeline 3's arrays, one by one. -/
theorem arrays7 (c : Dev nD) (s : S1.Idx → Elt F .f32) (h : S2x4096x128.Idx → Elt F .f32) (w : S1024x128.Idx → Elt F .f32)
    (y : S16384x1024.Idx → Elt F .f32) (n : ℕ) :
    (pd s h w y 3 c).arrays ((pd s h w y 3 c).arrAt · n)
      = iprop(((c.tc : Thread nD τ).loc main_v1 ↦{fullShare} s) ∗ ((c.tc : Thread nD τ).loc main_v5 ↦{fullShare} h)
          ∗ ((c.tc : Thread nD τ).loc main_arg2 ↦{fullShare} w) ∗ ((c.tc : Thread nD τ).loc main_v9 ↦{fullShare} (dat7 c s h w y).arrAt 3 n)) := by
  rw [Pipeline.arrays_eq (Pipeline.pin (pcfgs (F := F)) adm) (pd s h w y) 3 c arr_whole7 ((pd s h w y 3 c).share_full fun _ => rfl)]
  refine (bigSep_W7 _).trans ?_
  have e0 : (dat7 c s h w y).arrAt 0 n = s := Dat.arrAt_in _ 0 rfl n
  have e1 : (dat7 c s h w y).arrAt 1 n = h := Dat.arrAt_in _ 1 rfl n
  have e2 : (dat7 c s h w y).arrAt 2 n = w := Dat.arrAt_in _ 2 rfl n
  show iprop((_ ↦{fullShare} (dat7 c s h w y).arrAt 0 n) ∗ (_ ↦{fullShare} (dat7 c s h w y).arrAt 1 n)
    ∗ (_ ↦{fullShare} (dat7 c s h w y).arrAt 2 n) ∗ (_ ↦{fullShare} (dat7 c s h w y).arrAt 3 n)) = _
  rw [e0, e1, e2]

/-- Between points pipeline 3 holds the scoped buffers it does not stage. -/
theorem phi7 (s : S1.Idx → Elt F .f32) (h : S2x4096x128.Idx → Elt F .f32) (w : S1024x128.Idx → Elt F .f32)
    (y : S16384x1024.Idx → Elt F .f32) (c : Dev nD) (t) :
    (pd s h w y 3 c).Φ t = Pipeline.scopedRest (Pipeline.pin (pcfgs (F := F)) adm 3).spec c := by
  show Pipeline.scopedRest spec7 c = _
  rfl

/-- Pallas_call 3 as @main runs it: slab 3's rows of the result computed. -/
theorem region7 [∀ e, Nonempty (Elt F e)] (c : Dev nD) (s : S1.Idx → Elt F .f32) (h : S2x4096x128.Idx → Elt F .f32)
    (w : S1024x128.Idx → Elt F .f32) (y : S16384x1024.Idx → Elt F .f32) (Q : PUnit → sProp (MM F)) :
    iprop(((boundary (c.tc : Thread nD τ) ∗ (((c.tc : Thread nD τ).loc main_v1 ↦{fullShare} s) ∗ ((c.tc : Thread nD τ).loc main_v5 ↦{fullShare} h)
          ∗ ((c.tc : Thread nD τ).loc main_arg2 ↦{fullShare} w) ∗ ((c.tc : Thread nD τ).loc main_v9 ↦{fullShare} slabStep 3 h w s y)) ∗ owesB c) -∗ Q ⟨⟩)
        ∗ boundary (c.tc : Thread nD τ) ∗ ((((c.tc : Thread nD τ).loc main_v1 ↦{fullShare} s) ∗ ((c.tc : Thread nD τ).loc main_v5 ↦{fullShare} h)
          ∗ ((c.tc : Thread nD τ).loc main_arg2 ↦{fullShare} w) ∗ ((c.tc : Thread nD τ).loc main_v9 ↦{fullShare} y)) ∗ owesB c)
        ∗ levAts (K (F := F)).L (K (F := F)).lev
        ∗ Pipeline.cellsGhost (Pipeline.pin (pcfgs (F := F)) adm) EP 3 c ∗ Pipeline.toksInit (Pipeline.pin (pcfgs (F := F)) adm) EP 3 c)
      ⊢ wp (M := MM F) frame (wpE ((K (F := F)).defs (D (F := F))) 𝒱 (T c) none) Set.univ
          (Prog.lift (.customCall (SparseCore.inner (Pipeline.entry 3)) ())) Q := by
  have e := region_of (pd s h w y) 3 launch7 (fun c => obl7 c s h w y) (fun _ _ => rfl) (fun _ _ => rfl) (phi7 s h w y) c Q
  rw [arrays7 c s h w y 0, arrays7 c s h w y (Pipeline.pin (pcfgs (F := F)) adm 3).N] at e
  have hf : (dat7 c s h w y).arrAt 3 (Pipeline.pin (pcfgs (F := F)) adm 3).N = slabStep 3 h w s y := final7 c s h w y
  rw [hf] at e
  exact e

end Cert.Proof.Segs
-- ==== Proof.Main.lean ====
/-
  The kernel's run: @main on the TensorCore, step by step, and what every run leaves in the arguments and the result.
-/
module

public import proofs.«01_k».proof.Proof.Deal
public import proofs.«01_k».proof.Proof.Segs

@[expose] public section

set_option maxRecDepth 16384

noncomputable section

namespace Cert.Proof.Main

open Cert.KernelIdeal Cert.KernelIdeal.Gen Cert.Proof Cert.Proof.Tile Cert.Proof.Call Cert.Proof.Calls Cert.Proof.Deal Cert.Proof.Regions Cert.Proof.Segs
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

/-! ## What the buffers come to hold -/

/-- The TensorCore's buffer `b` on device `d`. -/
abbrev at_ (d : Dev nD) (b : Ref sig .tc) : Loc nD τ sig := (SparseCore.T d).loc b

/-- The scale, as the pallas_calls read it. -/
def scaleVal (d : Dev nD) : S1.Idx → Elt F .f32 := fun x => m (at_ d main_arg3) (Shape.reshapeEquiv shapeCasts_S_S1 x)

/-- The projection's weights. -/
def weights (d : Dev nD) : S1024x128.Idx → Elt F .f32 := m (at_ d main_arg2)

/-- The rows of the product once pallas_call `k` has written slab `k`'s, from what they held before. -/
def stage (d : Dev nD) (k : Fin 4) (y : S16384x1024.Idx → Elt F .f32) : S16384x1024.Idx → Elt F .f32 :=
  slabStep k.val (outFin m k d) (weights m d) (scaleVal m d) y

/-- The rows of the product after all four pallas_calls. -/
def rowsVal (d : Dev nD) : S16384x1024.Idx → Elt F .f32 :=
  stage m d 3 (stage m d 2 (stage m d 1 (stage m d 0 (m (at_ d main_v6)))))

/-- The result. -/
def outVal (d : Dev nD) : Buf (Elt F) (at_ d main_v10) :=
  fun x : S4x4096x1024.Idx => rowsVal m d (Shape.reshapeEquiv shapeCasts_S16384x1024_S4x4096x1024 x)

/-! ## @main -/

omit [FloatOps F] in
set_option maxHeartbeats 2000000 in
/-- The buffers @main is dealt. -/
theorem unscopedBufs_eq (d : Dev nD) (W : (b : Ref sig .tc) → Buf (Elt F) ((d.tc : Thread nD τ).loc b)) :
    (unscopedBufs d W : sProp (MM F)) = iprop((at_ d main_arg0 ↦{fullShare} W main_arg0) ∗ (at_ d main_arg1 ↦{fullShare} W main_arg1)
      ∗ (at_ d main_arg2 ↦{fullShare} W main_arg2) ∗ (at_ d main_arg3 ↦{fullShare} W main_arg3) ∗ (at_ d main_v0 ↦{fullShare} W main_v0)
      ∗ (at_ d main_v1 ↦{fullShare} W main_v1) ∗ (at_ d main_v2 ↦{fullShare} W main_v2) ∗ (at_ d main_v3 ↦{fullShare} W main_v3)
      ∗ (at_ d main_v4 ↦{fullShare} W main_v4) ∗ (at_ d main_v5 ↦{fullShare} W main_v5) ∗ (at_ d main_v6 ↦{fullShare} W main_v6)
      ∗ (at_ d main_v7 ↦{fullShare} W main_v7) ∗ (at_ d main_v8 ↦{fullShare} W main_v8) ∗ (at_ d main_v9 ↦{fullShare} W main_v9)
      ∗ (at_ d main_v10 ↦{fullShare} W main_v10)) := by
  unfold unscopedBufs
  rw [show (Finset.univ.filter fun b : Ref sig .tc => ¬ b.isScoped)
      = {main_arg0, main_arg1, main_arg2, main_arg3, main_v0, main_v1, main_v2, main_v3, main_v4, main_v5, main_v6, main_v7, main_v8, main_v9, main_v10} by decide]
  iterate 14 rw [SparseCore.bigSep_insert' (by decide)]
  rw [bigSep_singleton]

/-- The TensorCore's protocol state after the last call: it owes nothing, and the rest. -/
theorem tcSt_end (d : Dev nD) : ∃ R : sProp (MM F), (K (F := F)).tcSt EH d 4 = iprop(owesB d ∗ R) := by
  unfold SparseCore.Cfg.tcSt owesB
  rw [(K (F := F)).Otc_end d (le_refl 4)]
  exact ⟨_, rfl⟩

/-- Pipeline `p`'s launch state on device `d`. -/
def ghost (d : Dev nD) (p : Fin 4) : sProp (MM F) :=
  iprop(Pipeline.cellsGhost (Pipeline.pin (pcfgs (F := F)) adm) EP p d ∗ Pipeline.toksInit (Pipeline.pin (pcfgs (F := F)) adm) EP p d)

/-- The four pipelines' launch state on device `d`. -/
def G (d : Dev nD) : sProp (MM F) := iprop(ghost d 0 ∗ ghost d 1 ∗ ghost d 2 ∗ ghost d 3)

/-- What @main leaves: the arguments as they were, and the result. -/
def FIN (d : Dev nD) : sProp (MM F) :=
  iprop((at_ d main_arg0 ↦{fullShare} m (at_ d main_arg0)) ∗ (at_ d main_arg1 ↦{fullShare} m (at_ d main_arg1))
    ∗ (at_ d main_arg2 ↦{fullShare} m (at_ d main_arg2)) ∗ (at_ d main_arg3 ↦{fullShare} m (at_ d main_arg3))
    ∗ (at_ d main_v10 ↦{fullShare} outVal m d))

/-- The tokens laid out one row after the other. -/
theorem host_tokens (d : Dev nD) (Q : PUnit → sProp (MM F)) :
    iprop(boundary (SparseCore.T d) ∗ (at_ d main_arg0 ↦{fullShare} m (at_ d main_arg0)) ∗ (at_ d main_v0 ↦{fullShare} m (at_ d main_v0))
        ∗ ((boundary (SparseCore.T d) ∗ (at_ d main_arg0 ↦{fullShare} m (at_ d main_arg0)) ∗ (at_ d main_v0 ↦{fullShare} tokBuf m d)) -∗ Q ⟨⟩))
      ⊢ wp (M := MM F) frame (wpE ((K (F := F)).defs (D (F := F))) 𝒱 (SparseCore.T d) none) Set.univ
          (hlo rfl (StableHlo.reshape main_arg0 main_v0 (rfl : (.i32 : EltTy) = .i32) shapeCasts_S4x4096_S16384) fun _ => .ret ⟨⟩) Q :=
  host m _ (by decide) rfl rfl _ _ _ (fun W => StableHlo.reshape_result_ne _ _ _ _ _ _ W (show (main_arg0 : Ref sig .tc) ≠ main_v0 by decide))
    (fun W hW => (StableHlo.reshape_result _ _ _ _ _ _ W).trans (by rw [hW]; rfl)) Q

/-- The scale laid out as a vector of one. -/
theorem host_scale (d : Dev nD) (Q : PUnit → sProp (MM F)) :
    iprop(boundary (SparseCore.T d) ∗ (at_ d main_arg3 ↦{fullShare} m (at_ d main_arg3)) ∗ (at_ d main_v1 ↦{fullShare} m (at_ d main_v1))
        ∗ ((boundary (SparseCore.T d) ∗ (at_ d main_arg3 ↦{fullShare} m (at_ d main_arg3)) ∗ (at_ d main_v1 ↦{fullShare} scaleVal m d)) -∗ Q ⟨⟩))
      ⊢ wp (M := MM F) frame (wpE ((K (F := F)).defs (D (F := F))) 𝒱 (SparseCore.T d) none) Set.univ
          (hlo rfl (StableHlo.reshape main_arg3 main_v1 (rfl : (.f32 : EltTy) = .f32) shapeCasts_S_S1) fun _ => .ret ⟨⟩) Q :=
  host m _ (by decide) rfl rfl _ _ _ (fun W => StableHlo.reshape_result_ne _ _ _ _ _ _ W (show (main_arg3 : Ref sig .tc) ≠ main_v1 by decide))
    (fun W hW => (StableHlo.reshape_result _ _ _ _ _ _ W).trans (by rw [hW]; rfl)) Q

/-- The rows laid out as the result. -/
theorem host_out (d : Dev nD) (Q : PUnit → sProp (MM F)) :
    iprop(boundary (SparseCore.T d) ∗ (at_ d main_v9 ↦{fullShare} rowsVal m d) ∗ (at_ d main_v10 ↦{fullShare} m (at_ d main_v10))
        ∗ ((boundary (SparseCore.T d) ∗ (at_ d main_v9 ↦{fullShare} rowsVal m d) ∗ (at_ d main_v10 ↦{fullShare} outVal m d)) -∗ Q ⟨⟩))
      ⊢ wp (M := MM F) frame (wpE ((K (F := F)).defs (D (F := F))) 𝒱 (SparseCore.T d) none) Set.univ
          (hlo rfl (StableHlo.reshape main_v9 main_v10 (rfl : (.f32 : EltTy) = .f32) shapeCasts_S16384x1024_S4x4096x1024) fun _ => .ret ⟨⟩) Q :=
  host m _ (by decide) rfl rfl _ _ _ (fun W => StableHlo.reshape_result_ne _ _ _ _ _ _ W (show (main_v9 : Ref sig .tc) ≠ main_v10 by decide))
    (fun W hW => (StableHlo.reshape_result _ _ _ _ _ _ W).trans (by rw [hW]; rfl)) Q

/-- The rows so far, copied from `main_v6` to `main_v7`. -/
theorem host_copy7 (d : Dev nD) (y : S16384x1024.Idx → Elt F .f32) (Q : PUnit → sProp (MM F)) :
    iprop(boundary (SparseCore.T d) ∗ (at_ d main_v6 ↦{fullShare} y) ∗ (at_ d main_v7 ↦{fullShare} m (at_ d main_v7))
        ∗ ((boundary (SparseCore.T d) ∗ (at_ d main_v6 ↦{fullShare} y) ∗ (at_ d main_v7 ↦{fullShare} y)) -∗ Q ⟨⟩))
      ⊢ wp (M := MM F) frame (wpE ((K (F := F)).defs (D (F := F))) 𝒱 (SparseCore.T d) none) Set.univ
          (hlo rfl (StableHlo.unary main_v6 main_v7 id) fun _ => .ret ⟨⟩) Q :=
  host m _ (by decide) rfl rfl _ _ _ (fun W => StableHlo.unary_result_ne _ _ _ _ _ W (show (main_v6 : Ref sig .tc) ≠ main_v7 by decide))
    (fun W hW => (StableHlo.unary_result _ _ _ _ _ W).trans hW) Q

/-- The rows so far, copied from `main_v7` to `main_v8`. -/
theorem host_copy8 (d : Dev nD) (y : S16384x1024.Idx → Elt F .f32) (Q : PUnit → sProp (MM F)) :
    iprop(boundary (SparseCore.T d) ∗ (at_ d main_v7 ↦{fullShare} y) ∗ (at_ d main_v8 ↦{fullShare} m (at_ d main_v8))
        ∗ ((boundary (SparseCore.T d) ∗ (at_ d main_v7 ↦{fullShare} y) ∗ (at_ d main_v8 ↦{fullShare} y)) -∗ Q ⟨⟩))
      ⊢ wp (M := MM F) frame (wpE ((K (F := F)).defs (D (F := F))) 𝒱 (SparseCore.T d) none) Set.univ
          (hlo rfl (StableHlo.unary main_v7 main_v8 id) fun _ => .ret ⟨⟩) Q :=
  host m _ (by decide) rfl rfl _ _ _ (fun W => StableHlo.unary_result_ne _ _ _ _ _ W (show (main_v7 : Ref sig .tc) ≠ main_v8 by decide))
    (fun W hW => (StableHlo.unary_result _ _ _ _ _ W).trans hW) Q

/-- The rows so far, copied from `main_v8` to `main_v9`. -/
theorem host_copy9 (d : Dev nD) (y : S16384x1024.Idx → Elt F .f32) (Q : PUnit → sProp (MM F)) :
    iprop(boundary (SparseCore.T d) ∗ (at_ d main_v8 ↦{fullShare} y) ∗ (at_ d main_v9 ↦{fullShare} m (at_ d main_v9))
        ∗ ((boundary (SparseCore.T d) ∗ (at_ d main_v8 ↦{fullShare} y) ∗ (at_ d main_v9 ↦{fullShare} y)) -∗ Q ⟨⟩))
      ⊢ wp (M := MM F) frame (wpE ((K (F := F)).defs (D (F := F))) 𝒱 (SparseCore.T d) none) Set.univ
          (hlo rfl (StableHlo.unary main_v8 main_v9 id) fun _ => .ret ⟨⟩) Q :=
  host m _ (by decide) rfl rfl _ _ _ (fun W => StableHlo.unary_result_ne _ _ _ _ _ W (show (main_v8 : Ref sig .tc) ≠ main_v9 by decide))
    (fun W hW => (StableHlo.unary_result _ _ _ _ _ W).trans hW) Q

/-- SparseCore call 0: `main_v2` comes to hold slab 0's table rows. -/
theorem call0 (κ : GSem nD τ sig → ℕ) (d : Dev nD) (Φ : PUnit → sProp (MM F)) :
    iprop((K (F := F)).ctx EH (P m) κ ∗ (K (F := F)).tcSt EH d 0
        ∗ ((tokLoc d ↦{fullShare} tokBuf m d) ∗ (tabLoc d ↦{fullShare} m (tabLoc d)) ∗ (at_ d main_v2 ↦{fullShare} m (at_ d main_v2)))
        ∗ (((K (F := F)).tcSt EH d 1
            ∗ ((tokLoc d ↦{fullShare} tokBuf m d) ∗ (tabLoc d ↦{fullShare} m (tabLoc d)) ∗ (at_ d main_v2 ↦{fullShare} outFin m 0 d))) -∗ Φ ⟨⟩))
      ⊢ wp (M := MM F) frame (wpE ((K (F := F)).defs (D (F := F))) 𝒱 (SparseCore.T d) none) Set.univ ((K (F := F)).run d 0) Φ :=
  call m κ d 0 Φ

/-- SparseCore call 1: `main_v3` comes to hold slab 1's table rows. -/
theorem call1 (κ : GSem nD τ sig → ℕ) (d : Dev nD) (Φ : PUnit → sProp (MM F)) :
    iprop((K (F := F)).ctx EH (P m) κ ∗ (K (F := F)).tcSt EH d 1
        ∗ ((tokLoc d ↦{fullShare} tokBuf m d) ∗ (tabLoc d ↦{fullShare} m (tabLoc d)) ∗ (at_ d main_v3 ↦{fullShare} m (at_ d main_v3)))
        ∗ (((K (F := F)).tcSt EH d 2
            ∗ ((tokLoc d ↦{fullShare} tokBuf m d) ∗ (tabLoc d ↦{fullShare} m (tabLoc d)) ∗ (at_ d main_v3 ↦{fullShare} outFin m 1 d))) -∗ Φ ⟨⟩))
      ⊢ wp (M := MM F) frame (wpE ((K (F := F)).defs (D (F := F))) 𝒱 (SparseCore.T d) none) Set.univ ((K (F := F)).run d 1) Φ :=
  call m κ d 1 Φ

/-- SparseCore call 2: `main_v4` comes to hold slab 2's table rows. -/
theorem call2 (κ : GSem nD τ sig → ℕ) (d : Dev nD) (Φ : PUnit → sProp (MM F)) :
    iprop((K (F := F)).ctx EH (P m) κ ∗ (K (F := F)).tcSt EH d 2
        ∗ ((tokLoc d ↦{fullShare} tokBuf m d) ∗ (tabLoc d ↦{fullShare} m (tabLoc d)) ∗ (at_ d main_v4 ↦{fullShare} m (at_ d main_v4)))
        ∗ (((K (F := F)).tcSt EH d 3
            ∗ ((tokLoc d ↦{fullShare} tokBuf m d) ∗ (tabLoc d ↦{fullShare} m (tabLoc d)) ∗ (at_ d main_v4 ↦{fullShare} outFin m 2 d))) -∗ Φ ⟨⟩))
      ⊢ wp (M := MM F) frame (wpE ((K (F := F)).defs (D (F := F))) 𝒱 (SparseCore.T d) none) Set.univ ((K (F := F)).run d 2) Φ :=
  call m κ d 2 Φ

/-- SparseCore call 3: `main_v5` comes to hold slab 3's table rows. -/
theorem call3 (κ : GSem nD τ sig → ℕ) (d : Dev nD) (Φ : PUnit → sProp (MM F)) :
    iprop((K (F := F)).ctx EH (P m) κ ∗ (K (F := F)).tcSt EH d 3
        ∗ ((tokLoc d ↦{fullShare} tokBuf m d) ∗ (tabLoc d ↦{fullShare} m (tabLoc d)) ∗ (at_ d main_v5 ↦{fullShare} m (at_ d main_v5)))
        ∗ (((K (F := F)).tcSt EH d 4
            ∗ ((tokLoc d ↦{fullShare} tokBuf m d) ∗ (tabLoc d ↦{fullShare} m (tabLoc d)) ∗ (at_ d main_v5 ↦{fullShare} outFin m 3 d))) -∗ Φ ⟨⟩))
      ⊢ wp (M := MM F) frame (wpE ((K (F := F)).defs (D (F := F))) 𝒱 (SparseCore.T d) none) Set.univ ((K (F := F)).run d 3) Φ :=
  call m κ d 3 Φ

omit [FloatOps F] in
/-- A rearrangement of what a pallas_call is entered with. -/
theorem reorder {b s h w o o' ow lev c t q X : sProp (MM F)}
    (e : iprop(((b ∗ (s ∗ h ∗ w ∗ o') ∗ ow) -∗ q) ∗ b ∗ ((s ∗ h ∗ w ∗ o) ∗ ow) ∗ lev ∗ c ∗ t) ⊢ X) :
    iprop(lev ∗ c ∗ t ∗ b ∗ ow ∗ s ∗ h ∗ w ∗ o ∗ ((b ∗ ow ∗ s ∗ h ∗ w ∗ o') -∗ q)) ⊢ X := by
  refine BIBase.Entails.trans ?_ e
  iintro ⟨HL, HC, HT, HB, HO, HS, HH, HW, HY, HK⟩
  isplitl [HK]
  · iintro ⟨HB, ⟨HS, HH, HW, HY⟩, HO⟩
    iapply HK
    isplitl [HB]; · iexact HB
    isplitl [HO]; · iexact HO
    isplitl [HS]; · iexact HS
    isplitl [HH]; · iexact HH
    isplitl [HW] <;> iassumption
  isplitl [HB]; · iexact HB
  isplitl [HS HH HW HY HO]
  · isplitl [HS HH HW HY]
    · isplitl [HS]; · iexact HS
      isplitl [HH]; · iexact HH
      isplitl [HW] <;> iassumption
    iexact HO
  isplitl [HL]; · iexact HL
  isplitl [HC] <;> iassumption

/-- Pallas_call 0: `main_v6` comes to hold slab 0's rows as well. -/
theorem mm0 [∀ e, Nonempty (Elt F e)] (d : Dev nD) (y : S16384x1024.Idx → Elt F .f32) (Q : PUnit → sProp (MM F)) :
    iprop(levAts (K (F := F)).L (K (F := F)).lev
        ∗ Pipeline.cellsGhost (Pipeline.pin (pcfgs (F := F)) adm) EP 0 d ∗ Pipeline.toksInit (Pipeline.pin (pcfgs (F := F)) adm) EP 0 d
        ∗ boundary (SparseCore.T d) ∗ owesB d ∗ (at_ d main_v1 ↦{fullShare} scaleVal m d) ∗ (at_ d main_v2 ↦{fullShare} outFin m 0 d)
        ∗ (at_ d main_arg2 ↦{fullShare} m (at_ d main_arg2)) ∗ (at_ d main_v6 ↦{fullShare} y)
        ∗ ((boundary (SparseCore.T d) ∗ owesB d ∗ (at_ d main_v1 ↦{fullShare} scaleVal m d) ∗ (at_ d main_v2 ↦{fullShare} outFin m 0 d)
            ∗ (at_ d main_arg2 ↦{fullShare} m (at_ d main_arg2)) ∗ (at_ d main_v6 ↦{fullShare} stage m d 0 y)) -∗ Q ⟨⟩))
      ⊢ wp (M := MM F) frame (wpE ((K (F := F)).defs (D (F := F))) 𝒱 (SparseCore.T d) none) Set.univ
          (Prog.lift (.customCall (SparseCore.inner (Pipeline.entry 0)) ())) Q :=
  reorder (region4 d (scaleVal m d) (outFin m 0 d) (weights m d) y Q)

/-- Pallas_call 1: `main_v7` comes to hold slab 1's rows as well. -/
theorem mm1 [∀ e, Nonempty (Elt F e)] (d : Dev nD) (y : S16384x1024.Idx → Elt F .f32) (Q : PUnit → sProp (MM F)) :
    iprop(levAts (K (F := F)).L (K (F := F)).lev
        ∗ Pipeline.cellsGhost (Pipeline.pin (pcfgs (F := F)) adm) EP 1 d ∗ Pipeline.toksInit (Pipeline.pin (pcfgs (F := F)) adm) EP 1 d
        ∗ boundary (SparseCore.T d) ∗ owesB d ∗ (at_ d main_v1 ↦{fullShare} scaleVal m d) ∗ (at_ d main_v3 ↦{fullShare} outFin m 1 d)
        ∗ (at_ d main_arg2 ↦{fullShare} m (at_ d main_arg2)) ∗ (at_ d main_v7 ↦{fullShare} y)
        ∗ ((boundary (SparseCore.T d) ∗ owesB d ∗ (at_ d main_v1 ↦{fullShare} scaleVal m d) ∗ (at_ d main_v3 ↦{fullShare} outFin m 1 d)
            ∗ (at_ d main_arg2 ↦{fullShare} m (at_ d main_arg2)) ∗ (at_ d main_v7 ↦{fullShare} stage m d 1 y)) -∗ Q ⟨⟩))
      ⊢ wp (M := MM F) frame (wpE ((K (F := F)).defs (D (F := F))) 𝒱 (SparseCore.T d) none) Set.univ
          (Prog.lift (.customCall (SparseCore.inner (Pipeline.entry 1)) ())) Q :=
  reorder (region5 d (scaleVal m d) (outFin m 1 d) (weights m d) y Q)

/-- Pallas_call 2: `main_v8` comes to hold slab 2's rows as well. -/
theorem mm2 [∀ e, Nonempty (Elt F e)] (d : Dev nD) (y : S16384x1024.Idx → Elt F .f32) (Q : PUnit → sProp (MM F)) :
    iprop(levAts (K (F := F)).L (K (F := F)).lev
        ∗ Pipeline.cellsGhost (Pipeline.pin (pcfgs (F := F)) adm) EP 2 d ∗ Pipeline.toksInit (Pipeline.pin (pcfgs (F := F)) adm) EP 2 d
        ∗ boundary (SparseCore.T d) ∗ owesB d ∗ (at_ d main_v1 ↦{fullShare} scaleVal m d) ∗ (at_ d main_v4 ↦{fullShare} outFin m 2 d)
        ∗ (at_ d main_arg2 ↦{fullShare} m (at_ d main_arg2)) ∗ (at_ d main_v8 ↦{fullShare} y)
        ∗ ((boundary (SparseCore.T d) ∗ owesB d ∗ (at_ d main_v1 ↦{fullShare} scaleVal m d) ∗ (at_ d main_v4 ↦{fullShare} outFin m 2 d)
            ∗ (at_ d main_arg2 ↦{fullShare} m (at_ d main_arg2)) ∗ (at_ d main_v8 ↦{fullShare} stage m d 2 y)) -∗ Q ⟨⟩))
      ⊢ wp (M := MM F) frame (wpE ((K (F := F)).defs (D (F := F))) 𝒱 (SparseCore.T d) none) Set.univ
          (Prog.lift (.customCall (SparseCore.inner (Pipeline.entry 2)) ())) Q :=
  reorder (region6 d (scaleVal m d) (outFin m 2 d) (weights m d) y Q)

/-- Pallas_call 3: `main_v9` comes to hold slab 3's rows as well. -/
theorem mm3 [∀ e, Nonempty (Elt F e)] (d : Dev nD) (y : S16384x1024.Idx → Elt F .f32) (Q : PUnit → sProp (MM F)) :
    iprop(levAts (K (F := F)).L (K (F := F)).lev
        ∗ Pipeline.cellsGhost (Pipeline.pin (pcfgs (F := F)) adm) EP 3 d ∗ Pipeline.toksInit (Pipeline.pin (pcfgs (F := F)) adm) EP 3 d
        ∗ boundary (SparseCore.T d) ∗ owesB d ∗ (at_ d main_v1 ↦{fullShare} scaleVal m d) ∗ (at_ d main_v5 ↦{fullShare} outFin m 3 d)
        ∗ (at_ d main_arg2 ↦{fullShare} m (at_ d main_arg2)) ∗ (at_ d main_v9 ↦{fullShare} y)
        ∗ ((boundary (SparseCore.T d) ∗ owesB d ∗ (at_ d main_v1 ↦{fullShare} scaleVal m d) ∗ (at_ d main_v5 ↦{fullShare} outFin m 3 d)
            ∗ (at_ d main_arg2 ↦{fullShare} m (at_ d main_arg2)) ∗ (at_ d main_v9 ↦{fullShare} stage m d 3 y)) -∗ Q ⟨⟩))
      ⊢ wp (M := MM F) frame (wpE ((K (F := F)).defs (D (F := F))) 𝒱 (SparseCore.T d) none) Set.univ
          (Prog.lift (.customCall (SparseCore.inner (Pipeline.entry 3)) ())) Q :=
  reorder (region7 d (scaleVal m d) (outFin m 3 d) (weights m d) y Q)

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp (M := MM F) frame (wpE ((K (F := F)).defs (D (F := F))) 𝒱 (SparseCore.T d) none) Set.univ (main d)
          fun _ => iprop((K (F := F)).tcSt EH d 4 ∗ FIN m d ∗ (K (F := F)).tcEnd d) := by
  obtain ⟨R, hR⟩ := tcSt_end (F := F) d
  unfold SparseCore.Cfg.tcRes SparseCore.Cfg.tcEnd G ghost FIN
  rw [unscopedBufs_eq]
  simp only [main, wp_bind, wp_pure]
  iintro ⟨#Hctx, Hst, ⟨Hb, ⟨A0, A1, A2, A3, V0, V1, V2, V3, V4, V5, V6, V7, V8, V9, V10⟩, Hts, -⟩, ⟨C0, K0⟩, ⟨C1, K1⟩, ⟨C2, K2⟩, ⟨C3, K3⟩⟩
  iapply (host_tokens m d)
  isplitl [Hb]; · iexact Hb
  isplitl [A0]; · iexact A0
  isplitl [V0]; · iexact V0
  iintro ⟨Hb, A0, V0⟩
  iapply (host_scale m d)
  isplitl [Hb]; · iexact Hb
  isplitl [A3]; · iexact A3
  isplitl [V1]; · iexact V1
  iintro ⟨Hb, A3, V1⟩
  iapply (call0 m κ d)
  isplitr; · iexact Hctx
  isplitl [Hst]; · iexact Hst
  isplitl [V0 A1 V2]
  · isplitl [V0]; · iexact V0
    isplitl [A1]; · iexact A1
    iexact V2
  iintro ⟨Hst, V0, A1, V2⟩
  iapply (call1 m κ d)
  isplitr; · iexact Hctx
  isplitl [Hst]; · iexact Hst
  isplitl [V0 A1 V3]
  · isplitl [V0]; · iexact V0
    isplitl [A1]; · iexact A1
    iexact V3
  iintro ⟨Hst, V0, A1, V3⟩
  iapply (call2 m κ d)
  isplitr; · iexact Hctx
  isplitl [Hst]; · iexact Hst
  isplitl [V0 A1 V4]
  · isplitl [V0]; · iexact V0
    isplitl [A1]; · iexact A1
    iexact V4
  iintro ⟨Hst, V0, A1, V4⟩
  iapply (call3 m κ d)
  isplitr; · iexact Hctx
  isplitl [Hst]; · iexact Hst
  isplitl [V0 A1 V5]
  · isplitl [V0]; · iexact V0
    isplitl [A1]; · iexact A1
    iexact V5
  iintro ⟨Hst, V0, A1, V5⟩
  ihave Hst' := (Entails.of_eq hR) $$ Hst
  icases Hst' with ⟨HO, HR⟩
  ihave #Hlev := (SparseCore.Cfg.ctx_levAts κ) $$ Hctx
  iapply (mm0 m d)
  isplitr; · iexact Hlev
  isplitl [C0]; · iexact C0
  isplitl [K0]; · iexact K0
  isplitl [Hb]; · iexact Hb
  isplitl [HO]; · iexact HO
  isplitl [V1]; · iexact V1
  isplitl [V2]; · iexact V2
  isplitl [A2]; · iexact A2
  isplitl [V6]; · iexact V6
  iintro ⟨Hb, HO, V1, -, A2, V6⟩
  iapply (host_copy7 m d)
  isplitl [Hb]; · iexact Hb
  isplitl [V6]; · iexact V6
  isplitl [V7]; · iexact V7
  iintro ⟨Hb, -, V7⟩
  iapply (mm1 m d)
  isplitr; · iexact Hlev
  isplitl [C1]; · iexact C1
  isplitl [K1]; · iexact K1
  isplitl [Hb]; · iexact Hb
  isplitl [HO]; · iexact HO
  isplitl [V1]; · iexact V1
  isplitl [V3]; · iexact V3
  isplitl [A2]; · iexact A2
  isplitl [V7]; · iexact V7
  iintro ⟨Hb, HO, V1, -, A2, V7⟩
  iapply (host_copy8 m d)
  isplitl [Hb]; · iexact Hb
  isplitl [V7]; · iexact V7
  isplitl [V8]; · iexact V8
  iintro ⟨Hb, -, V8⟩
  iapply (mm2 m d)
  isplitr; · iexact Hlev
  isplitl [C2]; · iexact C2
  isplitl [K2]; · iexact K2
  isplitl [Hb]; · iexact Hb
  isplitl [HO]; · iexact HO
  isplitl [V1]; · iexact V1
  isplitl [V4]; · iexact V4
  isplitl [A2]; · iexact A2
  isplitl [V8]; · iexact V8
  iintro ⟨Hb, HO, V1, -, A2, V8⟩
  iapply (host_copy9 m d)
  isplitl [Hb]; · iexact Hb
  isplitl [V8]; · iexact V8
  isplitl [V9]; · iexact V9
  iintro ⟨Hb, -, V9⟩
  iapply (mm3 m d)
  isplitr; · iexact Hlev
  isplitl [C3]; · iexact C3
  isplitl [K3]; · iexact K3
  isplitl [Hb]; · iexact Hb
  isplitl [HO]; · iexact HO
  isplitl [V1]; · iexact V1
  isplitl [V5]; · iexact V5
  isplitl [A2]; · iexact A2
  isplitl [V9]; · iexact V9
  iintro ⟨Hb, HO, V1, -, A2, V9⟩
  iapply (host_out m d)
  isplitl [Hb]; · iexact Hb
  isplitl [V9]; · iexact V9
  isplitl [V10]; · iexact V10
  iintro ⟨Hb, -, V10⟩
  imodintro
  isplitl [HO HR]
  · iapply (Entails.of_eq hR.symm)
    isplitl [HO] <;> iassumption
  isplitr [Hb Hts]
  · isplitl [A0]; · iexact A0
    isplitl [A1]; · iexact A1
    isplitl [A2]; · iexact A2
    isplitl [A3] <;> iassumption
  isplitl [Hb] <;> iassumption

end Cert.Proof.Main

end
-- ==== Proof.Run.lean ====
/-
  The kernel launched from any memory: every run leaves the result the computation defines, the arguments as they were and the
  semaphores at zero.
-/
module

public import proofs.«01_k».proof.Proof.Main

@[expose] public section

set_option maxRecDepth 16384

noncomputable section

namespace Cert.Proof.Run

open Cert.KernelIdeal Cert.KernelIdeal.Gen Cert.Proof Cert.Proof.Calls Cert.Proof.Regions Cert.Proof.Main
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

/-- The pipelines' rounds at the launch. -/
def up₀ : UP :=
  initOf (Pipeline.cells (Pipeline.pin (pcfgs (F := F)) adm) cellOf_inj) (Pipeline.launchToks (Pipeline.pin (pcfgs (F := F)) adm) cellOf_inj)

/-- The launch's ghost state: the handshakes' rounds and the pipelines'. -/
def u₀ : UU := (initOf (K (F := F)).hsCells (K (F := F)).hsToks, (up₀ (F := F), 1))

omit [FloatOps F] in
/-- The pipelines' rounds, dealt to the devices and pipelines. -/
theorem fund : (BI.own (EP (F := F) (up₀ (F := F))) : sProp (MM F)) ⊢ |==> bigSep Finset.univ (G (F := F)) := by
  refine BIBase.Entails.trans (Pipeline.fund_ghost (Pipeline.pin (pcfgs (F := F)) adm) EP cellOf_inj) (bupd_mono ?_)
  rw [← bigSep_sep']
  refine bigSep_mono fun d _ => ?_
  rw [← bigSep_sep', show (Finset.univ : Finset (Fin 4)) = {0, 1, 2, 3} by decide]
  iterate 3 rw [SparseCore.bigSep_insert' (by decide)]
  rw [bigSep_singleton]
  exact BI.Entails.refl _

/-- The launch's ghost state, dealt: the handshakes', each device's pipelines', and nothing else to any tile. -/
theorem hu₀ : (ownU (u₀ (F := F)) : sProp (MM F))
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 4 => (P m).x q thr) := by
  have hx : (bigSep Finset.univ fun thr : Thread nD τ => bigSep Finset.univ fun q : Fin 4 => (P m).x q thr) = (BI.emp : sProp (MM F)) :=
    (bigSep_congr fun _ _ => bigSep_emp_const _).trans (bigSep_emp_const _)
  rw [hx]
  unfold u₀
  iintro Hu
  ihave H := (ownU_pair (initOf (K (F := F)).hsCells (K (F := F)).hsToks) (up₀ (F := F), (1 : Counters))) $$ Hu
  icases H with ⟨HH, HP⟩
  ihave H := (own_pair_emb embR (up₀ (F := F)) (1 : Counters)) $$ HP
  icases H with ⟨HP, -⟩
  ihave HP := (Entails.of_eq (show (BI.own (((Emb.inl : Emb UP (UP × Counters)).trans embR) (up₀ (F := F))) : sProp (MM F)) = BI.own (EP (F := F) (up₀ (F := F))) from rfl)) $$ HP
  imod (fund (F := F)) $$ HP with HG
  imodintro
  isplitl [HH]; · iexact HH
  isplitl [HG]; · iexact HG
  iempintro

/-! ## The run -/

/-- What a final state's memory holds on device `d`. -/
def fq (d : Dev nD) (s' : Phys nD τ sig (Elt F)) : Prop :=
  s'.mem.mem (at_ d main_v10) = outVal m d ∧ s'.mem.mem (at_ d main_arg0) = m (at_ d main_arg0) ∧ s'.mem.mem (at_ d main_arg1) = m (at_ d main_arg1)
    ∧ s'.mem.mem (at_ d main_arg2) = m (at_ d main_arg2) ∧ s'.mem.mem (at_ d main_arg3) = m (at_ d main_arg3)

omit [FloatOps F] in
/-- A whole buffer held at a final state is what that state's memory holds. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp (MM F)) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  iexact HSI

/-- What @main leaves settles the final memory. -/
theorem hfin (d : Dev nD) (s' : Phys nD τ sig (Elt F)) : iprop(FIN m d ∗ SI s') ⊢ (⌜fq m d s'⌝ : sProp (MM F)) := by
  unfold FIN
  iintro ⟨⟨A0, A1, A2, A3, V⟩, HSI⟩
  ihave H := (agree s' (at_ d main_arg0) _) $$ [HSI A0]
  · isplitl [HSI] <;> iassumption
  icases H with ⟨%h0, HSI⟩
  ihave H := (agree s' (at_ d main_arg1) _) $$ [HSI A1]
  · isplitl [HSI] <;> iassumption
  icases H with ⟨%h1, HSI⟩
  ihave H := (agree s' (at_ d main_arg2) _) $$ [HSI A2]
  · isplitl [HSI] <;> iassumption
  icases H with ⟨%h2, HSI⟩
  ihave H := (agree s' (at_ d main_arg3) _) $$ [HSI A3]
  · isplitl [HSI] <;> iassumption
  icases H with ⟨%h3, HSI⟩
  ihave H := (agree s' (at_ d main_v10) _) $$ [HSI V]
  · isplitl [HSI] <;> iassumption
  icases H with ⟨%h, -⟩
  ipureintro; exact ⟨h, h0, h1, h2, h3⟩

/-- What every run ends in. -/
def QC : PUnit × MemSt nD τ sig (Elt F) → Prop := fun r =>
  (∀ d : Dev nD, r.2.mem (at_ d main_v10) = outVal m d ∧ r.2.mem (at_ d main_arg0) = m (at_ d main_arg0) ∧ r.2.mem (at_ d main_arg1) = m (at_ d main_arg1)
    ∧ r.2.mem (at_ d main_arg2) = m (at_ d main_arg2) ∧ r.2.mem (at_ d main_arg3) = m (at_ d main_arg3)) ∧ r.2.sem = fun _ => 0

/-- Every run of the kernel from any memory leaves the result at `outVal`, the arguments unchanged and the semaphores at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq | 3 => nomatch hq)
    (fun q _ => match q with | 0 => tileObl0 m | 1 => tileObl1 m | 2 => tileObl2 m | 3 => tileObl3 m)
    (fun q _ => SparseCore.Cfg.VecSplit.of_plain (vecSplit m q))
    m ρ main G (FIN m) (u₀ (F := F)) (sep_elim_left.trans (hu₀ m)) (hmain m ρ) (fq m) (hfin m) (QC m) (fun _ h hz => ⟨h, hz⟩)

end Cert.Proof.Run

end
-- ==== Proof.Same.lean ====
/-
  The kernel as it was traced and the kernel read over the extended reals have the same text: here, read over machine words, their
  body tables and their threads are equal.
-/
module

public import proofs.«01_k».proof.Defs
public import proofs.«01_k».proof.Proof.Gen.Kernel
public import proofs.«01_k».proof.Proof.Gen.KernelIdeal

@[expose] public section

set_option maxRecDepth 65536
set_option maxHeartbeats 4000000

noncomputable section

namespace Cert.Proof.Same

open Idealize.ShloMosaic Idealize.SL.Sem

/-- The kernels' bodies. -/
theorem bodies_eq : Cert.Kernel.defs₀ (F := Bits) = Cert.KernelIdeal.defs₀ (F := Bits) := by
  funext p ℓ a
  match p, ℓ, a with
  | .scVector _ _, 0, _ => rfl
  | .scVector _ _, 1, _ => rfl
  | .scVector _ _, 2, _ => rfl
  | .scVector _ _, 3, _ => rfl
  | .scVector _ _, 4, _ => rfl
  | .scVector _ _, 5, _ => rfl
  | .scVector _ _, 6, _ => rfl
  | .scVector _ _, 7, _ => rfl
  | .tc, 0, _ => rfl
  | .tc, 1, _ => rfl
  | .tc, 2, _ => rfl
  | .tc, 3, _ => rfl
  | .tc, 4, _ => rfl
  | .tc, 5, _ => rfl
  | .tc, 6, _ => rfl
  | .tc, 7, _ => rfl
  | .scScalar _, 0, _ => rfl
  | .scScalar _, 1, _ => rfl
  | .scScalar _, 2, _ => rfl
  | .scScalar _, 3, _ => rfl
  | .scScalar _, 4, _ => rfl
  | .scScalar _, 5, _ => rfl
  | .scScalar _, 6, _ => rfl
  | .scScalar _, 7, _ => rfl

/-- The body tables. -/
theorem defs_eq : Cert.Kernel.defs (F := Bits) = Cert.KernelIdeal.defs (F := Bits) :=
  congrArg (fun D => (Cert.Kernel.sc (F := Bits)).defs (Pipeline.defs (Cert.Kernel.pcfgs (F := Bits)) D)) bodies_eq

/-- @main. -/
theorem main_eq : Cert.Kernel.main (F := Bits) = Cert.KernelIdeal.main (F := Bits) := rfl

/-- The threads. -/
theorem threads_eq : Cert.Kernel.threads (F := Bits) = Cert.KernelIdeal.threads (F := Bits) :=
  congrArg (fun M => (Cert.Kernel.sc (F := Bits)).threads M) main_eq

end Cert.Proof.Same

end
-- ==== Proof.Frames.lean ====
/-
  The frames: each program runs to its end from any memory, its arguments unchanged and its semaphores at zero.
-/
module

public import proofs.«01_k».proof.Defs
public import proofs.«01_k».proof.Proof.Run
public import proofs.«01_k».proof.Proof.Same
public import proofs.«01_k».proof.Proof.Gen.Kernel
public import proofs.«01_k».proof.Proof.Gen.ReferenceIdeal.Run
public import Idealize.ShloMosaic.Lib.Quiescent

@[expose] public section

noncomputable section

namespace Cert.Proof.Frames

open Idealize.ShloMosaic Idealize.SL.Sem

/-- The kernel as it was traced. -/
theorem frame_kernel : Cert.quiescent_Kernel := fun m ρ _ => by
  rw [Same.defs_eq, Same.threads_eq]
  exact (θ_run Cert.KernelIdeal.defs _ _).mono (fun _ h => ⟨fun c => (h.1 c).2, h.2⟩) (Run.run_main (F := Bits) m ρ)

/-- The kernel over the extended reals. -/
theorem frame_ideal : Cert.quiescent_KernelIdeal := fun m ρ _ =>
  (θ_run Cert.KernelIdeal.defs _ _).mono (fun _ h => ⟨fun c => (h.1 c).2, h.2⟩) (Run.run_main (F := Ideal) m ρ)

/-- The reference over the extended reals: a host program, with no semaphore at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Frames

end
-- ==== Proof.Ref.lean ====
/-
  The reference, element by element: the hashes by the host's own remainder, the rows it takes from the table, the product
  with the weights and the scale.
-/
module

public import proofs.«01_k».proof.Proof.HashVal
public import proofs.«01_k».proof.Proof.Gen.ReferenceIdeal.Run
public import Idealize.ShloMosaic.Lib.Pointwise
public import Idealize.ShloMosaic.Lib.ReduceAll

@[expose] public section

noncomputable section

namespace Cert.Proof.Ref

open Cert.ReferenceIdeal Cert.ReferenceIdeal.Gen
open Idealize.ShloMosaic Idealize.ShloMosaic.TcCoe
open Cert.Proof.Hash (modWord modWord_toInt biWord triWord)

/-! ## The reference's terms -/

/-- The modulus, with the host's guard against a zero one. -/
def modulus : IVec S_ 32 :=
  select (cmpi .eq (constantI S_ 32 999999#32) (constantI S_ 32 0#32)) (constantI S_ 32 1#32) (constantI S_ 32 999999#32)

/-- The host's remainder of a vector by the modulus: the truncated remainder, with the modulus added where that is negative. -/
def remVec {s : Shape} (hb : S_.BroadcastsInDim s (![] : Fin 0 → Fin s.rank)) (x : IVec s 32) : IVec s 32 :=
  select (andi (cmpi .ne (cmpi .slt (Host.remsi x (broadcastInDim s ![] hb modulus)) (broadcastInDim s ![] hb (constantI S_ 32 0#32)))
        (broadcastInDim s ![] hb (cmpi .slt modulus (constantI S_ 32 0#32))))
      (cmpi .ne (Host.remsi x (broadcastInDim s ![] hb modulus)) (broadcastInDim s ![] hb (constantI S_ 32 0#32))))
    (addi (Host.remsi x (broadcastInDim s ![] hb modulus)) (broadcastInDim s ![] hb modulus))
    (Host.remsi x (broadcastInDim s ![] hb modulus))

/-- The bigram rows. -/
def biVec (t : IVec S4x4096 32) : IVec S4x4096 32 :=
  concatenate S4x4096 1 [⟨S4x1, broadcastInDim S4x1 ![] bcast_S_S4x1 (constantI S_ 32 999999#32)⟩,
    ⟨S4x4095, remVec bcast_S_S4x4095 (xori
      (muli (broadcastInDim S4x4095 ![] bcast_S_S4x4095 (constantI S_ 32 36313#32)) (extractStridedSlice S4x4095 ![0, 1] t slices_S4x4096_S4x4095_0_1))
      (muli (broadcastInDim S4x4095 ![] bcast_S_S4x4095 (constantI S_ 32 27191#32)) (extractStridedSlice S4x4095 ![0, 0] t slices_S4x4096_S4x4095_0_0)))⟩]
    concatenates_S4x1_S4x4095_S4x4096_d1

/-- The trigram rows. -/
def triVec (t : IVec S4x4096 32) : IVec S4x4096 32 :=
  concatenate S4x4096 1 [⟨S4x2, broadcastInDim S4x2 ![] bcast_S_S4x2 (constantI S_ 32 999999#32)⟩,
    ⟨S4x4094, remVec bcast_S_S4x4094 (xori (xori
      (muli (broadcastInDim S4x4094 ![] bcast_S_S4x4094 (constantI S_ 32 36313#32)) (extractStridedSlice S4x4094 ![0, 2] t slices_S4x4096_S4x4094_0_2))
      (muli (broadcastInDim S4x4094 ![] bcast_S_S4x4094 (constantI S_ 32 27191#32)) (extractStridedSlice S4x4094 ![0, 1] t slices_S4x4096_S4x4094_0_1)))
      (muli (broadcastInDim S4x4094 ![] bcast_S_S4x4094 (constantI S_ 32 51497#32)) (extractStridedSlice S4x4094 ![0, 0] t slices_S4x4096_S4x4094_0_0)))⟩]
    concatenates_S4x2_S4x4094_S4x4096_d1

/-- The rows as the gather reads them, a negative one counted from the table's end. -/
def wrapped (x : IVec S4x4096 32) : IVec S4x4096x1 32 :=
  broadcastInDim S4x4096x1 ![0, 1] bcast_S4x4096_S4x4096x1_0_1
    (select (cmpi .slt x (broadcastInDim S4x4096 ![] bcast_S_S4x4096 (constantI S_ 32 0#32)))
      (addi x (broadcastInDim S4x4096 ![] bcast_S_S4x4096 (constantI S_ 32 1000000#32))) x)

/-- One where a row is one of the table's. -/
def inTable (x : IVec S4x4096x1 32) : IVec S4x4096x1 1 :=
  andi (cmpi .sge x (broadcastInDim S4x4096x1 ![] bcast_S_S4x4096x1 (constantI S_ 32 0#32)))
    (cmpi .sle x (broadcastInDim S4x4096x1 ![0, 1, 2] bcast_S1x1x1_S4x4096x1_0_1_2
      (broadcastInDim S1x1x1 ![2] bcast_S1_S1x1x1_2 (constantI S1 32 999999#32))))

/-- The rows taken from the table. -/
def taken (tab : FVec Ideal S1000000x128 .f32) (x : IVec S4x4096 32) : FVec Ideal S4x4096x128 .f32 :=
  select (broadcastInDim S4x4096x128 ![0, 1] bcast_S4x4096_S4x4096x128_0_1
      (Host.reduce IntOp.andi (inTable (wrapped x)) (constantI S_ 1 1#1) reducesTo_S4x4096x1_S4x4096_d2 h_S_))
    (Host.gather gather_S1000000x128_S4x4096x1_S4x4096x128_2_0_n_n_0_2_1128 tab (wrapped x))
    (broadcastInDim S4x4096x128 ![] bcast_S_S4x4096x128 (constant S_ .f32 0x7FC00000#32))

/-- The reference's result of its four arguments. -/
def result (t : IVec S4x4096 32) (tab : FVec Ideal S1000000x128 .f32) (w : FVec Ideal S1024x128 .f32) (s : FVec Ideal S_ .f32) :
    FVec Ideal S4x4096x1024 .f32 :=
  mulf (Host.dotGeneral dot_S4x4096x128_S1024x128_S4x4096x1024_2_1_01_0_n_n none (addf (taken tab (biVec t)) (taken tab (triVec t))) w)
    (broadcastInDim S4x4096x1024 ![] bcast_S_S4x4096x1024 s)

/-- The reference's run leaves that result. -/
theorem res_eq (m : (ℓ : Loc nD τ sig) → Buf (Elt Ideal) ℓ) (c : Dev nD) :
    Value.res_main_v31 m c = result (m ((c.tc : Thread nD τ).loc main_arg0)) (m ((c.tc : Thread nD τ).loc main_arg1))
      (m ((c.tc : Thread nD τ).loc main_arg2)) (m ((c.tc : Thread nD τ).loc main_arg3)) := rfl

/-! ## The hashes -/

/-- The host's remainder of one word by 999999 is the reduction. -/
theorem rem_word (x : BitVec 32) :
    Scalar.select (IntOp.andi (IntOp.cmpi .ne (IntOp.cmpi .slt (IntOp.remsi .host x 999999#32) 0#32) (IntOp.cmpi .slt 999999#32 0#32))
        (IntOp.cmpi .ne (IntOp.remsi .host x 999999#32) 0#32))
      (IntOp.addi (IntOp.remsi .host x 999999#32) 999999#32) (IntOp.remsi .host x 999999#32) = modWord x := by
  have e1 : (999999#32).toInt = 999999 := by decide
  have e0 : (0#32).toInt = 0 := by decide
  rw [IntOp.remsi_of_pos .host (by decide)]
  have hr : (x.srem 999999#32).toInt = x.toInt.tmod 999999 := by rw [BitVec.toInt_srem, e1]
  generalize x.srem 999999#32 = r at hr
  have hm := modWord_toInt x
  refine BitVec.eq_of_toInt_eq ?_
  rw [hm]
  have hl : -999999 < r.toInt := by rw [hr]; have := Int.lt_tmod_of_pos x.toInt (show (0 : ℤ) < 999999 by decide); omega
  have hu : r.toInt < 999999 := by rw [hr]; exact Int.tmod_lt_of_pos _ (by decide)
  have he : r.toInt % 999999 = x.toInt % 999999 := by
    rw [hr, Int.tmod_eq_emod]; split <;> omega
  have ec : IntOp.cmpi .slt 999999#32 0#32 = 0#1 := by decide
  rw [ec]
  by_cases hneg : r.toInt < 0
  · have c1 : IntOp.cmpi .slt r 0#32 = 1#1 := IntOp.cmpi_slt.2 (by rw [e0]; exact hneg)
    have c2 : IntOp.cmpi .ne r 0#32 = 1#1 := IntOp.cmpi_ne.2 (by rintro rfl; rw [e0] at hneg; omega)
    rw [c1, c2]
    show (r + 999999#32).toInt = _
    rw [BitVec.toInt_add, e1]; simp only [Int.bmod_def]; split <;> omega
  · have c1 : IntOp.cmpi .slt r 0#32 = 0#1 := by
      rcases BitVec.eq_zero_or_eq_one (IntOp.cmpi .slt r 0#32) with h | h
      · exact h
      · exact absurd (IntOp.cmpi_slt.1 h) (by rw [e0]; exact hneg)
    rw [c1]
    have : IntOp.andi (IntOp.cmpi .ne 0#1 0#1) (IntOp.cmpi .ne r 0#32) = 0#1 := by
      generalize IntOp.cmpi .ne r 0#32 = b; revert b; decide
    rw [this]
    show r.toInt = _
    omega

/-- The host's remainder of a vector, element by element. -/
theorem remVec_apply {s : Shape} (hb : S_.BroadcastsInDim s (![] : Fin 0 → Fin s.rank)) (x : IVec s 32) (i : s.Idx) :
    remVec hb x i = modWord (x i) := rem_word (x i)

/-- A constant times a word is the word times the constant. -/
theorem muli_swap (k t : BitVec 32) : IntOp.muli k t = t * k := BitVec.mul_comm k t

/-- The bigram row at a position. -/
theorem biVec_apply (t : IVec S4x4096 32) (b : Fin 4) (s : Fin 4096) :
    biVec t (ix2 b s) = biWord s.val (t (ix2 b s)) (t (ix2 b ⟨s.val - 1, by omega⟩)) := by
  unfold biWord
  pointwise [biVec, remVec_apply]
  have hs := Nat.mod_eq_of_lt s.isLt
  by_cases h : s.val < 1
  · exact (dif_pos h).trans (if_pos (by omega)).symm
  · refine (dif_neg h).trans (Eq.trans ?_ (if_neg (by omega)).symm)
    have e : (⟨1 + (s.val - 1), by omega⟩ : Fin 4096) = s := Fin.ext (by show 1 + (s.val - 1) = s.val; omega)
    exact congrArg modWord (congrArg₂ (· ^^^ ·) ((muli_swap _ _).trans (congrArg (fun q => t (ix2 b q) * 36313#32) e)) (muli_swap _ _))

/-- The trigram row at a position. -/
theorem triVec_apply (t : IVec S4x4096 32) (b : Fin 4) (s : Fin 4096) :
    triVec t (ix2 b s) = triWord s.val (t (ix2 b s)) (t (ix2 b ⟨s.val - 1, by omega⟩)) (t (ix2 b ⟨s.val - 2, by omega⟩)) := by
  unfold triWord
  pointwise [triVec, remVec_apply]
  have hs := Nat.mod_eq_of_lt s.isLt
  by_cases h : s.val < 2
  · exact (dif_pos h).trans (if_pos (by omega)).symm
  · refine (dif_neg h).trans (Eq.trans ?_ (if_neg (by omega)).symm)
    have e : (⟨2 + (s.val - 2), by omega⟩ : Fin 4096) = s := Fin.ext (by show 2 + (s.val - 2) = s.val; omega)
    have e' : (⟨1 + (s.val - 2), by omega⟩ : Fin 4096) = ⟨s.val - 1, by omega⟩ := Fin.ext (by show 1 + (s.val - 2) = s.val - 1; omega)
    exact congrArg modWord (congrArg₂ (· ^^^ ·) (congrArg₂ (· ^^^ ·)
      ((muli_swap _ _).trans (congrArg (fun q => t (ix2 b q) * 36313#32) e))
      ((muli_swap _ _).trans (congrArg (fun q => t (ix2 b q) * 27191#32) e'))) (muli_swap _ _))

/-! ## The rows taken -/

/-- A row the hashes give is not wrapped. -/
theorem wrapped_apply (x : IVec S4x4096 32) (hx : ∀ i, (x i).toNat < 1000000) (b : Fin 4) (s : Fin 4096) (z : Fin 1) :
    wrapped x (ix3 b s z) = x (ix2 b s) := by
  pointwise [wrapped]
  have h := hx (ix2 b s)
  generalize x (ix2 b s) = w at h
  have c : IntOp.cmpi .slt w 0#32 = 0#1 := by
    rcases BitVec.eq_zero_or_eq_one (IntOp.cmpi .slt w 0#32) with h' | h'
    · exact h'
    · have := IntOp.cmpi_slt.1 h'
      have e0 : (0#32).toInt = 0 := by decide
      rw [e0, BitVec.toInt_eq_toNat_of_lt (by omega)] at this
      omega
  rw [c]; rfl

/-- Every such row is in the table. -/
theorem inTable_apply (x : IVec S4x4096 32) (hx : ∀ i, (x i).toNat < 1000000) (i : S4x4096x1.Idx) :
    inTable (wrapped x) i = 1#1 := by
  obtain ⟨b, s, z, rfl⟩ : ∃ (b : Fin 4) (s : Fin 4096) (z : Fin 1), i = ix3 b s z := ⟨i 0, i 1, i 2, eq_ix3 i⟩
  pointwise [inTable]
  rw [wrapped_apply x hx]
  have h := hx (ix2 b s)
  generalize x (ix2 b s) = w at h
  have e0 : (0#32).toInt = 0 := by decide
  have e1 : (999999#32).toInt = 999999 := by decide
  have hw : w.toInt = w.toNat := BitVec.toInt_eq_toNat_of_lt (by omega)
  exact IntOp.andi_eq_one.2 ⟨IntOp.cmpi_sge.2 (by omega), IntOp.cmpi_sle.2 (by omega)⟩

/-- The table's index at the row a word names and a column. -/
def rowIx (w : BitVec 32) (k : Fin 128) : S1000000x128.Idx := ix2 ⟨w.toNat % 1000000, Nat.mod_lt _ (by decide)⟩ k

/-- The gather reads the named row, the word read signed and clamped to the table. -/
theorem gather_apply (tab : FVec Ideal S1000000x128 .f32) (x : IVec S4x4096x1 32) (b : Fin 4) (s : Fin 4096) (k : Fin 128) :
    Host.gather gather_S1000000x128_S4x4096x1_S4x4096x128_2_0_n_n_0_2_1128 tab x (ix3 b s k)
      = tab (ix2 ⟨min (x (ix3 b s 0)).toInt.toNat 999999, by omega⟩ k) := by
  unfold Host.gather
  refine congrArg tab (funext fun a => Fin.ext ?_)
  match a with
  | ⟨0, _⟩ =>
    show GatherDims.start _ (ix3 b s k) x 0 + GatherDims.batchCoord _ (ix3 b s k) 0 + GatherDims.offCoord _ (ix3 b s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x128_S4x4096x1_S4x4096x128_2_0_n_n_0_2_1128.startIndexMap from List.mem_singleton.mpr rfl)]
    have hsi : gather_S1000000x128_S4x4096x1_S4x4096x128_2_0_n_n_0_2_1128.siIdx (ix3 b s k)
        ⟨List.idxOf (0 : Fin 2) gather_S1000000x128_S4x4096x1_S4x4096x128_2_0_n_n_0_2_1128.startIndexMap,
          List.idxOf_lt_length_iff.2 (List.mem_singleton.mpr rfl)⟩ = ix3 b s 0 := by
      funext a'; refine Fin.ext ?_
      match a' with
      | ⟨0, _⟩ => rfl
      | ⟨1, _⟩ => rfl
      | ⟨2, _⟩ => rfl
    rw [hsi]
    rfl
  | ⟨1, _⟩ =>
    show GatherDims.start _ (ix3 b s k) x 1 + GatherDims.batchCoord _ (ix3 b s k) 1 + GatherDims.offCoord _ (ix3 b s k) 1 = k.val
    have h1 : (1 : Fin 2) ∉ gather_S1000000x128_S4x4096x1_S4x4096x128_2_0_n_n_0_2_1128.startIndexMap := by decide
    have h2 : (1 : Fin 2) ∈ gather_S1000000x128_S4x4096x1_S4x4096x128_2_0_n_n_0_2_1128.sKept := by decide
    rw [GatherDims.batchCoord_eq_zero _ _ _ List.not_mem_nil]
    unfold GatherDims.start GatherDims.offCoord
    rw [dif_neg h1, dif_pos h2]
    exact (Nat.zero_add _).trans rfl

/-- What is taken is the table at the named rows. -/
theorem taken_apply (tab : FVec Ideal S1000000x128 .f32) (x : IVec S4x4096 32) (hx : ∀ i, (x i).toNat < 1000000)
    (b : Fin 4) (s : Fin 4096) (k : Fin 128) : taken tab x (ix3 b s k) = tab (rowIx (x (ix2 b s)) k) := by
  have hm : ∀ j, Host.reduce IntOp.andi (inTable (wrapped x)) (constantI S_ 1 1#1) reducesTo_S4x4096x1_S4x4096_d2 h_S_ j = 1#1 :=
    fun j => Host.reduce_andi_one _ _ _ _ j rfl (inTable_apply x hx)
  unfold taken
  rw [show (Host.reduce IntOp.andi (inTable (wrapped x)) (constantI S_ 1 1#1) reducesTo_S4x4096x1_S4x4096_d2 h_S_) = fun _ => 1#1 from funext hm]
  show Host.gather _ tab (wrapped x) (ix3 b s k) = _
  refine (gather_apply tab (wrapped x) b s k).trans (congrArg (fun q => tab (ix2 q k)) (Fin.ext ?_))
  show min (wrapped x (ix3 b s 0)).toInt.toNat 999999 = (x (ix2 b s)).toNat % 1000000
  have h := hx (ix2 b s)
  rw [wrapped_apply x hx, BitVec.toInt_eq_toNat_of_lt (by omega)]
  omega

/-- Every bigram row is one of the table's. -/
theorem biVec_lt (t : IVec S4x4096 32) (i : S4x4096.Idx) : (biVec t i).toNat < 1000000 := by
  obtain ⟨b, s, rfl⟩ : ∃ (b : Fin 4) (s : Fin 4096), i = ix2 b s := ⟨i 0, i 1, eq_ix2 i⟩
  rw [biVec_apply]; exact Hash.biWord_lt _ _ _

/-- Every trigram row is one of the table's. -/
theorem triVec_lt (t : IVec S4x4096 32) (i : S4x4096.Idx) : (triVec t i).toNat < 1000000 := by
  obtain ⟨b, s, rfl⟩ : ∃ (b : Fin 4) (s : Fin 4096), i = ix2 b s := ⟨i 0, i 1, eq_ix2 i⟩
  rw [triVec_apply]; exact Hash.triWord_lt _ _ _ _

/-! ## The result -/

/-- The result at an index: the sum over the columns of the two rows' sum times the weight, times the scale. -/
theorem result_apply (t : IVec S4x4096 32) (tab : FVec Ideal S1000000x128 .f32) (w : FVec Ideal S1024x128 .f32) (s : FVec Ideal S_ .f32)
    (b : Fin 4) (p : Fin 4096) (n : Fin 1024) :
    result t tab w s (ix3 b p n) = (∑ k : Fin 128, (tab (rowIx (biVec t (ix2 b p)) k) + tab (rowIx (triVec t (ix2 b p)) k)) * w (ix2 n k)) * s ix0 := by
  pointwise [result]
  refine congrArg (· * s ix0) (Finset.sum_congr rfl fun k _ => congrArg (· * w (ix2 n k)) ?_)
  rw [taken_apply tab _ (biVec_lt t), taken_apply tab _ (triVec_lt t)]

end Cert.Proof.Ref

end
-- ==== Proof.Value.lean ====
/-
  The kernel's result over the extended reals, element by element, and that it is the reference's.
-/
module

public import proofs.«01_k».proof.Proof.Ref
public import proofs.«01_k».proof.Proof.Main

@[expose] public section

noncomputable section

namespace Cert.Proof.Value

open Cert.KernelIdeal Cert.KernelIdeal.Gen Cert.Proof Cert.Proof.Tile Cert.Proof.Call Cert.Proof.Calls Cert.Proof.Regions Cert.Proof.Main
open Idealize.ShloMosaic
open Cert.Proof.Hash (biWord triWord)
open Cert.Proof.Ref (rowIx)

/-- One call of the TensorCore's body at an element: the two gathered rows' sum against a row of the weights, times the scale. -/
theorem mmVal_apply (h : S2x512x128.Idx → Elt Ideal .f32) (w : S1024x128.Idx → Elt Ideal .f32) (s : S1.Idx → Elt Ideal .f32)
    (i : Fin 512) (j : Fin 1024) :
    mmVal (F := Ideal) h w s (ix2 i j) = (∑ k : Fin 128, (h (ix3 0 i k) + h (ix3 1 i k)) * w (ix2 j k)) * s (ix1 0) := by
  pointwise [mmVal, k4_pay1]
  exact congrArg (_ * s ·) (funext fun | ⟨0, _⟩ => rfl)

/-- The table's index of a gathered element. -/
theorem tabIx_eq (w : BitVec 32) (k : Fin 128) : tabIx w k = rowIx w k :=
  funext fun | ⟨0, _⟩ => rfl | ⟨1, _⟩ => rfl

/-- The slab a row is in computes it. -/
theorem slabOut_apply (T : ℕ → BitVec 32) (tab : S1000000x128.Idx → Elt Ideal .f32) (w : S1024x128.Idx → Elt Ideal .f32) (s : S1.Idx → Elt Ideal .f32)
    (b : ℕ) (p : Fin 4096) (n : Fin 1024) (i : S16384x1024.Idx) (e0 : (i 0).val = 4096 * b + p.val) (e1 : i 1 = n) :
    slabOut (F := Ideal) (hVal T tab (4096 * b)) w s i
      = (∑ k : Fin 128, (tab (rowIx (biRow T (4096 * b + p.val)) k) + tab (rowIx (triRow T (4096 * b + p.val)) k)) * w (ix2 n k)) * s (ix1 0) := by
  have eo : outIx ⟨(i 0).val % 512, Nat.mod_lt _ (by decide)⟩ (i 1) = ix2 ⟨(i 0).val % 512, Nat.mod_lt _ (by decide)⟩ n :=
    funext fun | ⟨0, _⟩ => rfl | ⟨1, _⟩ => e1
  unfold slabOut
  rw [eo, mmVal_apply]
  refine congrArg (· * s (ix1 0)) (Finset.sum_congr rfl fun k _ => congrArg (· * w (ix2 n k)) ?_)
  have ep : 4096 * b + (512 * ((i 0).val / 512 % 8) + (i 0).val % 512) % 4096 = 4096 * b + p.val := by
    have := p.isLt; omega
  refine congrArg₂ (· + ·) ?_ ?_
  · show tab (tabIx (biRow T (4096 * b + (512 * ((i 0).val / 512 % 8) + (i 0).val % 512) % 4096)) k) = _
    rw [ep, tabIx_eq]
  · show tab (tabIx (triRow T (4096 * b + (512 * ((i 0).val / 512 % 8) + (i 0).val % 512) % 4096)) k) = _
    rw [ep, tabIx_eq]

variable (m : (ℓ : Loc nD τ sig) → Buf (Elt Ideal) ℓ)

/-- After the four calls every row is what its slab's call computed. -/
theorem rowsVal_apply (d : Dev nD) (b : Fin 4) (p : Fin 4096) (i : S16384x1024.Idx) (e0 : (i 0).val = 4096 * b.val + p.val) :
    rowsVal (F := Ideal) m d i = slabOut (F := Ideal) (outFin m b d) (weights m d) (scaleVal m d) i := by
  have hp := p.isLt
  unfold rowsVal stage slabStep
  match b with
  | 0 => rw [if_neg (by omega), if_neg (by omega), if_neg (by omega), if_pos (by omega)]
  | 1 => rw [if_neg (by omega), if_neg (by omega), if_pos (by omega)]
  | 2 => rw [if_neg (by omega), if_pos (by omega)]
  | 3 => rw [if_pos (by omega)]

/-- The tokens, as an array of four sequences. -/
def tokens (d : Dev nD) : IVec S4x4096 32 := m (at_ d main_arg0)

/-- The token at a position is its sequence's at its column. -/
theorem toks_apply (d : Dev nD) (b : Fin 4) (p : Fin 4096) (n : ℕ) (e : n = 4096 * b.val + p.val) : toks (F := Ideal) m d n = tokens m d (ix2 b p) := by
  subst e
  unfold toks tokBuf
  refine congrArg (tokens m d) (Shape.reshapeEquiv_eq_of_rowMajor _ ?_)
  have hb := b.isLt
  have hp := p.isLt
  refine (Shape.rowMajor_val_two (ix2 b p)).trans (Eq.trans ?_ (Shape.rowMajor_val_one (posIx (4096 * b.val + p.val))).symm)
  show b.val * 4096 + p.val = (4096 * b.val + p.val) % 16384
  omega

/-- The kernel's bigram row at a position is the reference's. -/
theorem biRow_eq (d : Dev nD) (b : Fin 4) (p : Fin 4096) :
    biRow (toks (F := Ideal) m d) (4096 * b.val + p.val) = Ref.biVec (tokens m d) (ix2 b p) := by
  have hp := p.isLt
  rw [Ref.biVec_apply]
  unfold biRow biWord
  by_cases h : p.val = 0
  · rw [if_pos (by omega), if_pos (by omega)]
  · rw [if_neg (by omega), if_neg (by omega), toks_apply m d b p _ rfl,
      toks_apply m d b ⟨p.val - 1, by omega⟩ _ (show 4096 * b.val + p.val - 1 = 4096 * b.val + (p.val - 1) by omega)]

/-- The kernel's trigram row at a position is the reference's. -/
theorem triRow_eq (d : Dev nD) (b : Fin 4) (p : Fin 4096) :
    triRow (toks (F := Ideal) m d) (4096 * b.val + p.val) = Ref.triVec (tokens m d) (ix2 b p) := by
  have hp := p.isLt
  rw [Ref.triVec_apply]
  unfold triRow triWord
  by_cases h : p.val ≤ 1
  · rw [if_pos (by omega), if_pos (by omega)]
  · rw [if_neg (by omega), if_neg (by omega), toks_apply m d b p _ rfl,
      toks_apply m d b ⟨p.val - 1, by omega⟩ _ (show 4096 * b.val + p.val - 1 = 4096 * b.val + (p.val - 1) by omega),
      toks_apply m d b ⟨p.val - 2, by omega⟩ _ (show 4096 * b.val + p.val - 2 = 4096 * b.val + (p.val - 2) by omega)]

/-- The kernel's result is the reference's of the same four arguments, at every element. -/
theorem outVal_eq (d : Dev nD) :
    outVal (F := Ideal) m d = Ref.result (tokens m d) (table m d) (weights m d) (m (at_ d main_arg3)) := by
  funext x
  obtain ⟨b, p, n, rfl⟩ : ∃ (b : Fin 4) (p : Fin 4096) (n : Fin 1024), x = ix3 b p n := ⟨x 0, x 1, x 2, eq_ix3 x⟩
  have hb := b.isLt
  have hp := p.isLt
  have ei : Shape.reshapeEquiv shapeCasts_S16384x1024_S4x4096x1024 (ix3 b p n) = ix2 (⟨4096 * b.val + p.val, by omega⟩ : Fin 16384) n := by
    refine Shape.reshapeEquiv_eq_of_rowMajor _ ?_
    refine (Shape.rowMajor_val_two (ix2 (⟨4096 * b.val + p.val, by omega⟩ : Fin 16384) n)).trans (Eq.trans ?_ (Shape.rowMajor_val_three (ix3 b p n)).symm)
    show (4096 * b.val + p.val) * 1024 + n.val = (b.val * 4096 + p.val) * 1024 + n.val
    omega
  have es : scaleVal (F := Ideal) m d (ix1 0) = m (at_ d main_arg3) ix0 := congrArg (m (at_ d main_arg3)) (funext fun a => a.elim0)
  refine (congrArg (rowsVal (F := Ideal) m d) ei).trans ((rowsVal_apply m d b p _ rfl).trans ?_)
  refine (slabOut_apply _ _ _ _ b.val p n _ rfl rfl).trans ?_
  rw [Ref.result_apply, es, biRow_eq, triRow_eq]

end Cert.Proof.Value

end
-- ==== Proof.Agree.lean ====
/-
  The value claim: over the extended reals the kernel and the reference, from equal arguments, leave equal results.
-/
module

public import proofs.«01_k».proof.Defs
public import proofs.«01_k».proof.Proof.Run
public import proofs.«01_k».proof.Proof.Value

@[expose] public section

noncomputable section

namespace Cert.Proof.Agree

open Idealize.ShloMosaic Idealize.SL.Sem

/-- From memories that agree on the four arguments, every run of the kernel and every run of the reference leaves one and
    the same result, the arguments unchanged. -/
theorem agree : Cert.algebraic_KernelIdeal_ReferenceIdeal := by
  intro m ρ m' ρ' _ hagree
  refine ⟨fun c => Main.outVal (F := Ideal) m c,
    (θ_run Cert.KernelIdeal.defs _ _).mono (fun _ h => h.1) (Run.run_main (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  refine (Ref.res_eq m' c).trans (Eq.trans ?_ (Value.outVal_eq m c).symm)
  rw [h0, h1, h2, h3]
  rfl

end Cert.Proof.Agree

end
-- ==== Proof.lean ====
/-
  All five claims put together: the three frames, the unchanged ideal text, and the equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The three programs run to their ends and leave their arguments and semaphores as they should, the ideal kernel is the
    kernel's own text, and over the extended reals kernel and reference leave equal results. -/
theorem claim : Cert.Claim := ⟨Cert.Kernel.Gen.facts, Cert.KernelIdeal.Gen.facts, Cert.ReferenceIdeal.Gen.facts,
  Frames.frame_kernel, Frames.frame_ideal, Frames.frame_reference, trivial, Agree.agree⟩

end Cert.Proof

end
